-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S67x2x512 Cert.KernelIdeal.S67x1x512
  ∧ IdealRules.bf16_pair.PackStatement Cert.KernelIdeal.S67x512
  ∧ IdealRules.bf16_pair.Statement Cert.KernelIdeal.S67x2x512 Cert.KernelIdeal.S67x1x512
  ∧ IdealRules.bf16_pair.Statement Cert.KernelIdeal.S1x2x512 Cert.KernelIdeal.S1x1x512
  ∧ IdealRules.bf16_pair.Statement Cert.KernelIdeal.S2x512 Cert.KernelIdeal.S1x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x8576 : Shape := ⟨3, ![96, 1, 8576]⟩
abbrev S1072x9088 : Shape := ⟨2, ![1072, 9088]⟩
abbrev S67x9088 : Shape := ⟨2, ![67, 9088]⟩
abbrev S67x909 : Shape := ⟨2, ![67, 909]⟩
abbrev S96x8576 : Shape := ⟨2, ![96, 8576]⟩
abbrev S96x9088 : Shape := ⟨2, ![96, 9088]⟩
abbrev S1072x512 : Shape := ⟨2, ![1072, 512]⟩
abbrev S67x512 : Shape := ⟨2, ![67, 512]⟩
abbrev S96x512 : Shape := ⟨2, ![96, 512]⟩
abbrev S67x9216 : Shape := ⟨2, ![67, 9216]⟩
abbrev S256x256 : Shape := ⟨2, ![256, 256]⟩
abbrev S96x256 : Shape := ⟨2, ![96, 256]⟩
abbrev S128x128 : Shape := ⟨2, ![128, 128]⟩
abbrev S96x128 : Shape := ⟨2, ![96, 128]⟩
abbrev S67x907 : Shape := ⟨2, ![67, 907]⟩
abbrev S32x512 : Shape := ⟨2, ![32, 512]⟩
abbrev S8x512 : Shape := ⟨2, ![8, 512]⟩
abbrev S1x512 : Shape := ⟨2, ![1, 512]⟩
abbrev S2x512 : Shape := ⟨2, ![2, 512]⟩
abbrev S1x2x512 : Shape := ⟨3, ![1, 2, 512]⟩
abbrev S8x2x512 : Shape := ⟨3, ![8, 2, 512]⟩
abbrev S16x512 : Shape := ⟨2, ![16, 512]⟩
abbrev S8x1x512 : Shape := ⟨3, ![8, 1, 512]⟩
abbrev S8x8x512 : Shape := ⟨3, ![8, 8, 512]⟩
abbrev S64x512 : Shape := ⟨2, ![64, 512]⟩
abbrev S256x512 : Shape := ⟨2, ![256, 512]⟩
abbrev S4x512 : Shape := ⟨2, ![4, 512]⟩
abbrev S4x1x512 : Shape := ⟨3, ![4, 1, 512]⟩
abbrev S4x8x512 : Shape := ⟨3, ![4, 8, 512]⟩
abbrev S128x512 : Shape := ⟨2, ![128, 512]⟩

abbrev nBuf : Space → Nat
  | .hbm => 8
  | .vmem => 15
  | .smem => 0
  | _ => 0

abbrev bufTy : (tb : Table) → Fin (tcTables nBuf tb) → BufTy
  | .hbm, ⟨0, _⟩ => ⟨S96x1x8576, .bf16⟩
  | .hbm, ⟨1, _⟩ => ⟨S1072x9088, .i8⟩
  | .hbm, ⟨2, _⟩ => ⟨S1072x9088, .i8⟩
  | .hbm, ⟨3, _⟩ => ⟨S1072x9088, .i8⟩
  | .hbm, ⟨4, _⟩ => ⟨S67x9088, .bf16⟩
  | .hbm, ⟨5, _⟩ => ⟨S67x909, .i32⟩
  | .hbm, ⟨6, _⟩ => ⟨S96x8576, .bf16⟩
  | .hbm, ⟨7, _⟩ => ⟨S96x9088, .bf16⟩
  | .local _ .vmem, ⟨0, _⟩ => ⟨S96x8576, .bf16⟩
  | .local _ .vmem, ⟨1, _⟩ => ⟨S1072x512, .i8⟩
  | .local _ .vmem, ⟨2, _⟩ => ⟨S1072x512, .i8⟩
  | .local _ .vmem, ⟨3, _⟩ => ⟨S1072x512, .i8⟩
  | .local _ .vmem, ⟨4, _⟩ => ⟨S1072x512, .i8⟩
  | .local _ .vmem, ⟨5, _⟩ => ⟨S1072x512, .i8⟩
  | .local _ .vmem, ⟨6, _⟩ => ⟨S1072x512, .i8⟩
  | .local _ .vmem, ⟨7, _⟩ => ⟨S67x512, .bf16⟩
  | .local _ .vmem, ⟨8, _⟩ => ⟨S67x512, .bf16⟩
  | .local _ .vmem, ⟨9, _⟩ => ⟨S67x909, .i32⟩
  | .local _ .vmem, ⟨10, _⟩ => ⟨S96x512, .bf16⟩
  | .local _ .vmem, ⟨11, _⟩ => ⟨S96x512, .bf16⟩
  | .local _ .vmem, ⟨12, _⟩ => ⟨S96x8576, .bf16⟩
  | .local _ .vmem, ⟨13, _⟩ => ⟨S67x9216, .i32⟩
  | .local _ .vmem, ⟨14, _⟩ => ⟨S67x512, .i32⟩
  | _, _ => ⟨S96x1x8576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨1, ![18], ![false]⟩

def k0_mult1 (i : grid0.Coords) : BitVec 32 :=
  let arg0 : BitVec 32 := BitVec.ofNat 32 (i 0).val
  let c512_i32 : BitVec 32 := 512#32
  let v9 : BitVec 32 := Scalar.muli arg0 c512_i32
  v9
def k0_off1 (i : grid0.Coords) : Fin 2 → Nat :=
  let c0_10 : Index := 0#32
  let arg0 : BitVec 32 := BitVec.ofNat 32 (i 0).val
  let c512_i32 : BitVec 32 := 512#32
  let v9 : BitVec 32 := Scalar.muli arg0 c512_i32
  let v10 : BitVec 32 := v9
  let v18 : Index := Scalar.indexCast v10
  ![0, v18.toNat]
def k0_off2 (i : grid0.Coords) : Fin 2 → Nat :=
  let c1 : Index := 1#32
  let arg0 : BitVec 32 := BitVec.ofNat 32 (i 0).val
  let c512_i32 : BitVec 32 := 512#32
  let v9 : BitVec 32 := Scalar.muli arg0 c512_i32
  let v10 : BitVec 32 := v9
  let v25 : Index := Scalar.indexCast v10
  ![1, v25.toNat]
def k0_off3 (i : grid0.Coords) : Fin 2 → Nat :=
  let c2 : Index := 2#32
  let arg0 : BitVec 32 := BitVec.ofNat 32 (i 0).val
  let c512_i32 : BitVec 32 := 512#32
  let v9 : BitVec 32 := Scalar.muli arg0 c512_i32
  let v10 : BitVec 32 := v9
  let v193 : Index := Scalar.indexCast v10
  ![2, v193.toNat]
def k0_off4 (i : grid0.Coords) : Fin 2 → Nat :=
  let c3 : Index := 3#32
  let arg0 : BitVec 32 := BitVec.ofNat 32 (i 0).val
  let c512_i32 : BitVec 32 := 512#32
  let v9 : BitVec 32 := Scalar.muli arg0 c512_i32
  let v10 : BitVec 32 := v9
  let v200 : Index := Scalar.indexCast v10
  ![3, v200.toNat]
def k0_off5 (i : grid0.Coords) : Fin 2 → Nat :=
  let c4 : Index := 4#32
  let arg0 : BitVec 32 := BitVec.ofNat 32 (i 0).val
  let c512_i32 : BitVec 32 := 512#32
  let v9 : BitVec 32 := Scalar.muli arg0 c512_i32
  let v10 : BitVec 32 := v9
  let v368 : Index := Scalar.indexCast v10
  ![4, v368.toNat]
def k0_off6 (i : grid0.Coords) : Fin 2 → Nat :=
  let c5 : Index := 5#32
  let arg0 : BitVec 32 := BitVec.ofNat 32 (i 0).val
  let c512_i32 : BitVec 32 := 512#32
  let v9 : BitVec 32 := Scalar.muli arg0 c512_i32
  let v10 : BitVec 32 := v9
  let v375 : Index := Scalar.indexCast v10
  ![5, v375.toNat]
def k0_off7 (i : grid0.Coords) : Fin 2 → Nat :=
  let c6 : Index := 6#32
  let arg0 : BitVec 32 := BitVec.ofNat 32 (i 0).val
  let c512_i32 : BitVec 32 := 512#32
  let v9 : BitVec 32 := Scalar.muli arg0 c512_i32
  let v10 : BitVec 32 := v9
  let v543 : Index := Scalar.indexCast v10
  ![6, v543.toNat]
def k0_off8 (i : grid0.Coords) : Fin 2 → Nat :=
  let c7 : Index := 7#32
  let arg0 : BitVec 32 := BitVec.ofNat 32 (i 0).val
  let c512_i32 : BitVec 32 := 512#32
  let v9 : BitVec 32 := Scalar.muli arg0 c512_i32
  let v10 : BitVec 32 := v9
  let v550 : Index := Scalar.indexCast v10
  ![7, v550.toNat]
def k0_off9 (i : grid0.Coords) : Fin 2 → Nat :=
  let c8 : Index := 8#32
  let arg0 : BitVec 32 := BitVec.ofNat 32 (i 0).val
  let c512_i32 : BitVec 32 := 512#32
  let v9 : BitVec 32 := Scalar.muli arg0 c512_i32
  let v10 : BitVec 32 := v9
  let v718 : Index := Scalar.indexCast v10
  ![8, v718.toNat]
def k0_off10 (i : grid0.Coords) : Fin 2 → Nat :=
  let c9 : Index := 9#32
  let arg0 : BitVec 32 := BitVec.ofNat 32 (i 0).val
  let c512_i32 : BitVec 32 := 512#32
  let v9 : BitVec 32 := Scalar.muli arg0 c512_i32
  let v10 : BitVec 32 := v9
  let v725 : Index := Scalar.indexCast v10
  ![9, v725.toNat]
def k0_off11 (i : grid0.Coords) : Fin 2 → Nat :=
  let c10 : Index := 10#32
  let arg0 : BitVec 32 := BitVec.ofNat 32 (i 0).val
  let c512_i32 : BitVec 32 := 512#32
  let v9 : BitVec 32 := Scalar.muli arg0 c512_i32
  let v10 : BitVec 32 := v9
  let v893 : Index := Scalar.indexCast v10
  ![10, v893.toNat]
def k0_off12 (i : grid0.Coords) : Fin 2 → Nat :=
  let c11 : Index := 11#32
  let arg0 : BitVec 32 := BitVec.ofNat 32 (i 0).val
  let c512_i32 : BitVec 32 := 512#32
  let v9 : BitVec 32 := Scalar.muli arg0 c512_i32
  let v10 : BitVec 32 := v9
  let v900 : Index := Scalar.indexCast v10
  ![11, v900.toNat]
def k0_off13 (i : grid0.Coords) : Fin 2 → Nat :=
  let c12 : Index := 12#32
  let arg0 : BitVec 32 := BitVec.ofNat 32 (i 0).val
  let c512_i32 : BitVec 32 := 512#32
  let v9 : BitVec 32 := Scalar.muli arg0 c512_i32
  let v10 : BitVec 32 := v9
  let v1068 : Index := Scalar.indexCast v10
  ![12, v1068.toNat]
def k0_off14 (i : grid0.Coords) : Fin 2 → Nat :=
  let c13 : Index := 13#32
  let arg0 : BitVec 32 := BitVec.ofNat 32 (i 0).val
  let c512_i32 : BitVec 32 := 512#32
  let v9 : BitVec 32 := Scalar.muli arg0 c512_i32
  let v10 : BitVec 32 := v9
  let v1075 : Index := Scalar.indexCast v10
  ![13, v1075.toNat]
def k0_off15 (i : grid0.Coords) : Fin 2 → Nat :=
  let c14 : Index := 14#32
  let arg0 : BitVec 32 := BitVec.ofNat 32 (i 0).val
  let c512_i32 : BitVec 32 := 512#32
  let v9 : BitVec 32 := Scalar.muli arg0 c512_i32
  let v10 : BitVec 32 := v9
  let v1243 : Index := Scalar.indexCast v10
  ![14, v1243.toNat]
def k0_off16 (i : grid0.Coords) : Fin 2 → Nat :=
  let c15 : Index := 15#32
  let arg0 : BitVec 32 := BitVec.ofNat 32 (i 0).val
  let c512_i32 : BitVec 32 := 512#32
  let v9 : BitVec 32 := Scalar.muli arg0 c512_i32
  let v10 : BitVec 32 := v9
  let v1250 : Index := Scalar.indexCast v10
  ![15, v1250.toNat]
def k0_off17 (i : grid0.Coords) : Fin 2 → Nat :=
  let c16 : Index := 16#32
  let arg0 : BitVec 32 := BitVec.ofNat 32 (i 0).val
  let c512_i32 : BitVec 32 := 512#32
  let v9 : BitVec 32 := Scalar.muli arg0 c512_i32
  let v10 : BitVec 32 := v9
  let v1418 : Index := Scalar.indexCast v10
  ![16, v1418.toNat]
def k0_off18 (i : grid0.Coords) : Fin 2 → Nat :=
  let c17 : Index := 17#32
  let arg0 : BitVec 32 := BitVec.ofNat 32 (i 0).val
  let c512_i32 : BitVec 32 := 512#32
  let v9 : BitVec 32 := Scalar.muli arg0 c512_i32
  let v10 : BitVec 32 := v9
  let v1425 : Index := Scalar.indexCast v10
  ![17, v1425.toNat]
def k0_off19 (i : grid0.Coords) : Fin 2 → Nat :=
  let c18 : Index := 18#32
  let arg0 : BitVec 32 := BitVec.ofNat 32 (i 0).val
  let c512_i32 : BitVec 32 := 512#32
  let v9 : BitVec 32 := Scalar.muli arg0 c512_i32
  let v10 : BitVec 32 := v9
  let v1593 : Index := Scalar.indexCast v10
  ![18, v1593.toNat]
def k0_off20 (i : grid0.Coords) : Fin 2 → Nat :=
  let c19 : Index := 19#32
  let arg0 : BitVec 32 := BitVec.ofNat 32 (i 0).val
  let c512_i32 : BitVec 32 := 512#32
  let v9 : BitVec 32 := Scalar.muli arg0 c512_i32
  let v10 : BitVec 32 := v9
  let v1600 : Index := Scalar.indexCast v10
  ![19, v1600.toNat]
def k0_off21 (i : grid0.Coords) : Fin 2 → Nat :=
  let c20 : Index := 20#32
  let arg0 : BitVec 32 := BitVec.ofNat 32 (i 0).val
  let c512_i32 : BitVec 32 := 512#32
  let v9 : BitVec 32 := Scalar.muli arg0 c512_i32
  let v10 : BitVec 32 := v9
  let v1768 : Index := Scalar.indexCast v10
  ![20, v1768.toNat]
def k0_off22 (i : grid0.Coords) : Fin 2 → Nat :=
  let c21 : Index := 21#32
  let arg0 : BitVec 32 := BitVec.ofNat 32 (i 0).val
  let c512_i32 : BitVec 32 := 512#32
  let v9 : BitVec 32 := Scalar.muli arg0 c512_i32
  let v10 : BitVec 32 := v9
  let v1775 : Index := Scalar.indexCast v10
  ![21, v1775.toNat]
def k0_off23 (i : grid0.Coords) : Fin 2 → Nat :=
  let c22 : Index := 22#32
  let arg0 : BitVec 32 := BitVec.ofNat 32 (i 0).val
  let c512_i32 : BitVec 32 := 512#32
  let v9 : BitVec 32 := Scalar.muli arg0 c512_i32
  let v10 : BitVec 32 := v9
  let v1943 : Index := Scalar.indexCast v10
  ![22, v1943.toNat]
def k0_off24 (i : grid0.Coords) : Fin 2 → Nat :=
  let c23 : Index := 23#32
  let arg0 : BitVec 32 := BitVec.ofNat 32 (i 0).val
  let c512_i32 : BitVec 32 := 512#32
  let v9 : BitVec 32 := Scalar.muli arg0 c512_i32
  let v10 : BitVec 32 := v9
  let v1950 : Index := Scalar.indexCast v10
  ![23, v1950.toNat]
def k0_off25 (i : grid0.Coords) : Fin 2 → Nat :=
  let c24 : Index := 24#32
  let arg0 : BitVec 32 := BitVec.ofNat 32 (i 0).val
  let c512_i32 : BitVec 32 := 512#32
  let v9 : BitVec 32 := Scalar.muli arg0 c512_i32
  let v10 : BitVec 32 := v9
  let v2118 : Index := Scalar.indexCast v10
  ![24, v2118.toNat]
def k0_off26 (i : grid0.Coords) : Fin 2 → Nat :=
  let c25 : Index := 25#32
  let arg0 : BitVec 32 := BitVec.ofNat 32 (i 0).val
  let c512_i32 : BitVec 32 := 512#32
  let v9 : BitVec 32 := Scalar.muli arg0 c512_i32
  let v10 : BitVec 32 := v9
  let v2125 : Index := Scalar.indexCast v10
  ![25, v2125.toNat]
def k0_off27 (i : grid0.Coords) : Fin 2 → Nat :=
  let c26 : Index := 26#32
  let arg0 : BitVec 32 := BitVec.ofNat 32 (i 0).val
  let c512_i32 : BitVec 32 := 512#32
  let v9 : BitVec 32 := Scalar.muli arg0 c512_i32
  let v10 : BitVec 32 := v9
  let v2293 : Index := Scalar.indexCast v10
  ![26, v2293.toNat]
def k0_off28 (i : grid0.Coords) : Fin 2 → Nat :=
  let c27 : Index := 27#32
  let arg0 : BitVec 32 := BitVec.ofNat 32 (i 0).val
  let c512_i32 : BitVec 32 := 512#32
  let v9 : BitVec 32 := Scalar.muli arg0 c512_i32
  let v10 : BitVec 32 := v9
  let v2300 : Index := Scalar.indexCast v10
  ![27, v2300.toNat]
def k0_off29 (i : grid0.Coords) : Fin 2 → Nat :=
  let c28 : Index := 28#32
  let arg0 : BitVec 32 := BitVec.ofNat 32 (i 0).val
  let c512_i32 : BitVec 32 := 512#32
  let v9 : BitVec 32 := Scalar.muli arg0 c512_i32
  let v10 : BitVec 32 := v9
  let v2468 : Index := Scalar.indexCast v10
  ![28, v2468.toNat]
def k0_off30 (i : grid0.Coords) : Fin 2 → Nat :=
  let c29 : Index := 29#32
  let arg0 : BitVec 32 := BitVec.ofNat 32 (i 0).val
  let c512_i32 : BitVec 32 := 512#32
  let v9 : BitVec 32 := Scalar.muli arg0 c512_i32
  let v10 : BitVec 32 := v9
  let v2475 : Index := Scalar.indexCast v10
  ![29, v2475.toNat]
def k0_off31 (i : grid0.Coords) : Fin 2 → Nat :=
  let c30 : Index := 30#32
  let arg0 : BitVec 32 := BitVec.ofNat 32 (i 0).val
  let c512_i32 : BitVec 32 := 512#32
  let v9 : BitVec 32 := Scalar.muli arg0 c512_i32
  let v10 : BitVec 32 := v9
  let v2643 : Index := Scalar.indexCast v10
  ![30, v2643.toNat]
def k0_off32 (i : grid0.Coords) : Fin 2 → Nat :=
  let c31 : Index := 31#32
  let arg0 : BitVec 32 := BitVec.ofNat 32 (i 0).val
  let c512_i32 : BitVec 32 := 512#32
  let v9 : BitVec 32 := Scalar.muli arg0 c512_i32
  let v10 : BitVec 32 := v9
  let v2650 : Index := Scalar.indexCast v10
  ![31, v2650.toNat]
def k0_off33 (i : grid0.Coords) : Fin 2 → Nat :=
  let c32_709 : Index := 32#32
  let arg0 : BitVec 32 := BitVec.ofNat 32 (i 0).val
  let c512_i32 : BitVec 32 := 512#32
  let v9 : BitVec 32 := Scalar.muli arg0 c512_i32
  let v10 : BitVec 32 := v9
  let v2818 : Index := Scalar.indexCast v10
  ![32, v2818.toNat]
def k0_off34 (i : grid0.Coords) : Fin 2 → Nat :=
  let c33 : Index := 33#32
  let arg0 : BitVec 32 := BitVec.ofNat 32 (i 0).val
  let c512_i32 : BitVec 32 := 512#32
  let v9 : BitVec 32 := Scalar.muli arg0 c512_i32
  let v10 : BitVec 32 := v9
  let v2825 : Index := Scalar.indexCast v10
  ![33, v2825.toNat]
def k0_off35 (i : grid0.Coords) : Fin 2 → Nat :=
  let c34 : Index := 34#32
  let arg0 : BitVec 32 := BitVec.ofNat 32 (i 0).val
  let c512_i32 : BitVec 32 := 512#32
  let v9 : BitVec 32 := Scalar.muli arg0 c512_i32
  let v10 : BitVec 32 := v9
  let v2993 : Index := Scalar.indexCast v10
  ![34, v2993.toNat]
def k0_off36 (i : grid0.Coords) : Fin 2 → Nat :=
  let c35 : Index := 35#32
  let arg0 : BitVec 32 := BitVec.ofNat 32 (i 0).val
  let c512_i32 : BitVec 32 := 512#32
  let v9 : BitVec 32 := Scalar.muli arg0 c512_i32
  let v10 : BitVec 32 := v9
  let v3000 : Index := Scalar.indexCast v10
  ![35, v3000.toNat]
def k0_off37 (i : grid0.Coords) : Fin 2 → Nat :=
  let c36 : Index := 36#32
  let arg0 : BitVec 32 := BitVec.ofNat 32 (i 0).val
  let c512_i32 : BitVec 32 := 512#32
  let v9 : BitVec 32 := Scalar.muli arg0 c512_i32
  let v10 : BitVec 32 := v9
  let v3168 : Index := Scalar.indexCast v10
  ![36, v3168.toNat]
def k0_off38 (i : grid0.Coords) : Fin 2 → Nat :=
  let c37 : Index := 37#32
  let arg0 : BitVec 32 := BitVec.ofNat 32 (i 0).val
  let c512_i32 : BitVec 32 := 512#32
  let v9 : BitVec 32 := Scalar.muli arg0 c512_i32
  let v10 : BitVec 32 := v9
  let v3175 : Index := Scalar.indexCast v10
  ![37, v3175.toNat]
def k0_off39 (i : grid0.Coords) : Fin 2 → Nat :=
  let c38 : Index := 38#32
  let arg0 : BitVec 32 := BitVec.ofNat 32 (i 0).val
  let c512_i32 : BitVec 32 := 512#32
  let v9 : BitVec 32 := Scalar.muli arg0 c512_i32
  let v10 : BitVec 32 := v9
  let v3343 : Index := Scalar.indexCast v10
  ![38, v3343.toNat]
def k0_off40 (i : grid0.Coords) : Fin 2 → Nat :=
  let c39 : Index := 39#32
  let arg0 : BitVec 32 := BitVec.ofNat 32 (i 0).val
  let c512_i32 : BitVec 32 := 512#32
  let v9 : BitVec 32 := Scalar.muli arg0 c512_i32
  let v10 : BitVec 32 := v9
  let v3350 : Index := Scalar.indexCast v10
  ![39, v3350.toNat]
def k0_off41 (i : grid0.Coords) : Fin 2 → Nat :=
  let c40 : Index := 40#32
  let arg0 : BitVec 32 := BitVec.ofNat 32 (i 0).val
  let c512_i32 : BitVec 32 := 512#32
  let v9 : BitVec 32 := Scalar.muli arg0 c512_i32
  let v10 : BitVec 32 := v9
  let v3518 : Index := Scalar.indexCast v10
  ![40, v3518.toNat]
def k0_off42 (i : grid0.Coords) : Fin 2 → Nat :=
  let c41 : Index := 41#32
  let arg0 : BitVec 32 := BitVec.ofNat 32 (i 0).val
  let c512_i32 : BitVec 32 := 512#32
  let v9 : BitVec 32 := Scalar.muli arg0 c512_i32
  let v10 : BitVec 32 := v9
  let v3525 : Index := Scalar.indexCast v10
  ![41, v3525.toNat]
def k0_off43 (i : grid0.Coords) : Fin 2 → Nat :=
  let c42 : Index := 42#32
  let arg0 : BitVec 32 := BitVec.ofNat 32 (i 0).val
  let c512_i32 : BitVec 32 := 512#32
  let v9 : BitVec 32 := Scalar.muli arg0 c512_i32
  let v10 : BitVec 32 := v9
  let v3693 : Index := Scalar.indexCast v10
  ![42, v3693.toNat]
def k0_off44 (i : grid0.Coords) : Fin 2 → Nat :=
  let c43 : Index := 43#32
  let arg0 : BitVec 32 := BitVec.ofNat 32 (i 0).val
  let c512_i32 : BitVec 32 := 512#32
  let v9 : BitVec 32 := Scalar.muli arg0 c512_i32
  let v10 : BitVec 32 := v9
  let v3700 : Index := Scalar.indexCast v10
  ![43, v3700.toNat]
def k0_off45 (i : grid0.Coords) : Fin 2 → Nat :=
  let c44 : Index := 44#32
  let arg0 : BitVec 32 := BitVec.ofNat 32 (i 0).val
  let c512_i32 : BitVec 32 := 512#32
  let v9 : BitVec 32 := Scalar.muli arg0 c512_i32
  let v10 : BitVec 32 := v9
  let v3868 : Index := Scalar.indexCast v10
  ![44, v3868.toNat]
def k0_off46 (i : grid0.Coords) : Fin 2 → Nat :=
  let c45 : Index := 45#32
  let arg0 : BitVec 32 := BitVec.ofNat 32 (i 0).val
  let c512_i32 : BitVec 32 := 512#32
  let v9 : BitVec 32 := Scalar.muli arg0 c512_i32
  let v10 : BitVec 32 := v9
  let v3875 : Index := Scalar.indexCast v10
  ![45, v3875.toNat]
def k0_off47 (i : grid0.Coords) : Fin 2 → Nat :=
  let c46 : Index := 46#32
  let arg0 : BitVec 32 := BitVec.ofNat 32 (i 0).val
  let c512_i32 : BitVec 32 := 512#32
  let v9 : BitVec 32 := Scalar.muli arg0 c512_i32
  let v10 : BitVec 32 := v9
  let v4043 : Index := Scalar.indexCast v10
  ![46, v4043.toNat]
def k0_off48 (i : grid0.Coords) : Fin 2 → Nat :=
  let c47 : Index := 47#32
  let arg0 : BitVec 32 := BitVec.ofNat 32 (i 0).val
  let c512_i32 : BitVec 32 := 512#32
  let v9 : BitVec 32 := Scalar.muli arg0 c512_i32
  let v10 : BitVec 32 := v9
  let v4050 : Index := Scalar.indexCast v10
  ![47, v4050.toNat]
def k0_off49 (i : grid0.Coords) : Fin 2 → Nat :=
  let c48 : Index := 48#32
  let arg0 : BitVec 32 := BitVec.ofNat 32 (i 0).val
  let c512_i32 : BitVec 32 := 512#32
  let v9 : BitVec 32 := Scalar.muli arg0 c512_i32
  let v10 : BitVec 32 := v9
  let v4218 : Index := Scalar.indexCast v10
  ![48, v4218.toNat]
def k0_off50 (i : grid0.Coords) : Fin 2 → Nat :=
  let c49 : Index := 49#32
  let arg0 : BitVec 32 := BitVec.ofNat 32 (i 0).val
  let c512_i32 : BitVec 32 := 512#32
  let v9 : BitVec 32 := Scalar.muli arg0 c512_i32
  let v10 : BitVec 32 := v9
  let v4225 : Index := Scalar.indexCast v10
  ![49, v4225.toNat]
def k0_off51 (i : grid0.Coords) : Fin 2 → Nat :=
  let c50 : Index := 50#32
  let arg0 : BitVec 32 := BitVec.ofNat 32 (i 0).val
  let c512_i32 : BitVec 32 := 512#32
  let v9 : BitVec 32 := Scalar.muli arg0 c512_i32
  let v10 : BitVec 32 := v9
  let v4393 : Index := Scalar.indexCast v10
  ![50, v4393.toNat]
def k0_off52 (i : grid0.Coords) : Fin 2 → Nat :=
  let c51 : Index := 51#32
  let arg0 : BitVec 32 := BitVec.ofNat 32 (i 0).val
  let c512_i32 : BitVec 32 := 512#32
  let v9 : BitVec 32 := Scalar.muli arg0 c512_i32
  let v10 : BitVec 32 := v9
  let v4400 : Index := Scalar.indexCast v10
  ![51, v4400.toNat]
def k0_off53 (i : grid0.Coords) : Fin 2 → Nat :=
  let c52 : Index := 52#32
  let arg0 : BitVec 32 := BitVec.ofNat 32 (i 0).val
  let c512_i32 : BitVec 32 := 512#32
  let v9 : BitVec 32 := Scalar.muli arg0 c512_i32
  let v10 : BitVec 32 := v9
  let v4568 : Index := Scalar.indexCast v10
  ![52, v4568.toNat]
def k0_off54 (i : grid0.Coords) : Fin 2 → Nat :=
  let c53 : Index := 53#32
  let arg0 : BitVec 32 := BitVec.ofNat 32 (i 0).val
  let c512_i32 : BitVec 32 := 512#32
  let v9 : BitVec 32 := Scalar.muli arg0 c512_i32
  let v10 : BitVec 32 := v9
  let v4575 : Index := Scalar.indexCast v10
  ![53, v4575.toNat]
def k0_off55 (i : grid0.Coords) : Fin 2 → Nat :=
  let c54 : Index := 54#32
  let arg0 : BitVec 32 := BitVec.ofNat 32 (i 0).val
  let c512_i32 : BitVec 32 := 512#32
  let v9 : BitVec 32 := Scalar.muli arg0 c512_i32
  let v10 : BitVec 32 := v9
  let v4743 : Index := Scalar.indexCast v10
  ![54, v4743.toNat]
def k0_off56 (i : grid0.Coords) : Fin 2 → Nat :=
  let c55 : Index := 55#32
  let arg0 : BitVec 32 := BitVec.ofNat 32 (i 0).val
  let c512_i32 : BitVec 32 := 512#32
  let v9 : BitVec 32 := Scalar.muli arg0 c512_i32
  let v10 : BitVec 32 := v9
  let v4750 : Index := Scalar.indexCast v10
  ![55, v4750.toNat]
def k0_off57 (i : grid0.Coords) : Fin 2 → Nat :=
  let c56 : Index := 56#32
  let arg0 : BitVec 32 := BitVec.ofNat 32 (i 0).val
  let c512_i32 : BitVec 32 := 512#32
  let v9 : BitVec 32 := Scalar.muli arg0 c512_i32
  let v10 : BitVec 32 := v9
  let v4918 : Index := Scalar.indexCast v10
  ![56, v4918.toNat]
def k0_off58 (i : grid0.Coords) : Fin 2 → Nat :=
  let c57 : Index := 57#32
  let arg0 : BitVec 32 := BitVec.ofNat 32 (i 0).val
  let c512_i32 : BitVec 32 := 512#32
  let v9 : BitVec 32 := Scalar.muli arg0 c512_i32
  let v10 : BitVec 32 := v9
  let v4925 : Index := Scalar.indexCast v10
  ![57, v4925.toNat]
def k0_off59 (i : grid0.Coords) : Fin 2 → Nat :=
  let c58 : Index := 58#32
  let arg0 : BitVec 32 := BitVec.ofNat 32 (i 0).val
  let c512_i32 : BitVec 32 := 512#32
  let v9 : BitVec 32 := Scalar.muli arg0 c512_i32
  let v10 : BitVec 32 := v9
  let v5093 : Index := Scalar.indexCast v10
  ![58, v5093.toNat]
def k0_off60 (i : grid0.Coords) : Fin 2 → Nat :=
  let c59 : Index := 59#32
  let arg0 : BitVec 32 := BitVec.ofNat 32 (i 0).val
  let c512_i32 : BitVec 32 := 512#32
  let v9 : BitVec 32 := Scalar.muli arg0 c512_i32
  let v10 : BitVec 32 := v9
  let v5100 : Index := Scalar.indexCast v10
  ![59, v5100.toNat]
def k0_off61 (i : grid0.Coords) : Fin 2 → Nat :=
  let c60 : Index := 60#32
  let arg0 : BitVec 32 := BitVec.ofNat 32 (i 0).val
  let c512_i32 : BitVec 32 := 512#32
  let v9 : BitVec 32 := Scalar.muli arg0 c512_i32
  let v10 : BitVec 32 := v9
  let v5268 : Index := Scalar.indexCast v10
  ![60, v5268.toNat]
def k0_off62 (i : grid0.Coords) : Fin 2 → Nat :=
  let c61 : Index := 61#32
  let arg0 : BitVec 32 := BitVec.ofNat 32 (i 0).val
  let c512_i32 : BitVec 32 := 512#32
  let v9 : BitVec 32 := Scalar.muli arg0 c512_i32
  let v10 : BitVec 32 := v9
  let v5275 : Index := Scalar.indexCast v10
  ![61, v5275.toNat]
def k0_off63 (i : grid0.Coords) : Fin 2 → Nat :=
  let c62 : Index := 62#32
  let arg0 : BitVec 32 := BitVec.ofNat 32 (i 0).val
  let c512_i32 : BitVec 32 := 512#32
  let v9 : BitVec 32 := Scalar.muli arg0 c512_i32
  let v10 : BitVec 32 := v9
  let v5443 : Index := Scalar.indexCast v10
  ![62, v5443.toNat]
def k0_off64 (i : grid0.Coords) : Fin 2 → Nat :=
  let c63 : Index := 63#32
  let arg0 : BitVec 32 := BitVec.ofNat 32 (i 0).val
  let c512_i32 : BitVec 32 := 512#32
  let v9 : BitVec 32 := Scalar.muli arg0 c512_i32
  let v10 : BitVec 32 := v9
  let v5450 : Index := Scalar.indexCast v10
  ![63, v5450.toNat]
def k0_off65 (i : grid0.Coords) : Fin 2 → Nat :=
  let c64_1416 : Index := 64#32
  let arg0 : BitVec 32 := BitVec.ofNat 32 (i 0).val
  let c512_i32 : BitVec 32 := 512#32
  let v9 : BitVec 32 := Scalar.muli arg0 c512_i32
  let v10 : BitVec 32 := v9
  let v5618 : Index := Scalar.indexCast v10
  ![64, v5618.toNat]
def k0_off66 (i : grid0.Coords) : Fin 2 → Nat :=
  let c65 : Index := 65#32
  let arg0 : BitVec 32 := BitVec.ofNat 32 (i 0).val
  let c512_i32 : BitVec 32 := 512#32
  let v9 : BitVec 32 := Scalar.muli arg0 c512_i32
  let v10 : BitVec 32 := v9
  let v5625 : Index := Scalar.indexCast v10
  ![65, v5625.toNat]
def k0_off67 (i : grid0.Coords) : Fin 2 → Nat :=
  let c66 : Index := 66#32
  let arg0 : BitVec 32 := BitVec.ofNat 32 (i 0).val
  let c512_i32 : BitVec 32 := 512#32
  let v9 : BitVec 32 := Scalar.muli arg0 c512_i32
  let v10 : BitVec 32 := v9
  let v5793 : Index := Scalar.indexCast v10
  ![66, v5793.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x8576 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1072x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1072x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1072x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S67x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S67x909 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S96x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S67x2x512 : Shape := ⟨3, ![67, 2, 512]⟩
abbrev S67x1x512 : Shape := ⟨3, ![67, 1, 512]⟩
abbrev S1x1x512 : Shape := ⟨3, ![1, 1, 512]⟩
  | .local _ .vmem, ⟨14, _⟩ => ⟨S67x2x512, .bf16⟩
variable {F : FTy → Type} [FloatOps F]
-- ==== ReferenceIdeal.lean ====
abbrev S96x1x8576 : Shape := ⟨3, ![96, 1, 8576]⟩
abbrev S1072x9088 : Shape := ⟨2, ![1072, 9088]⟩
abbrev S67x9088 : Shape := ⟨2, ![67, 9088]⟩
abbrev S67x909 : Shape := ⟨2, ![67, 909]⟩
abbrev S_ : Shape := ⟨0, ![]⟩
abbrev S67x9090 : Shape := ⟨2, ![67, 9090]⟩
abbrev S8 : Shape := ⟨1, ![8]⟩
abbrev S1x8x1 : Shape := ⟨3, ![1, 8, 1]⟩
abbrev S1072x1x9088 : Shape := ⟨3, ![1072, 1, 9088]⟩
abbrev S1072x8x9088 : Shape := ⟨3, ![1072, 8, 9088]⟩
abbrev S67x16x8x9088 : Shape := ⟨4, ![67, 16, 8, 9088]⟩
abbrev S67x1x1x9088 : Shape := ⟨4, ![67, 1, 1, 9088]⟩
abbrev S8576x9088 : Shape := ⟨2, ![8576, 9088]⟩
abbrev S96x1x9088 : Shape := ⟨3, ![96, 1, 9088]⟩
abbrev S96x9088 : Shape := ⟨2, ![96, 9088]⟩

abbrev nBuf : Space → Nat
  | .hbm => 118
  | .vmem => 0
  | .smem => 0
  | _ => 0

abbrev bufTy : (tb : Table) → Fin (tcTables nBuf tb) → BufTy
  | .hbm, ⟨0, _⟩ => ⟨S96x1x8576, .bf16⟩
  | .hbm, ⟨1, _⟩ => ⟨S1072x9088, .i8⟩
  | .hbm, ⟨2, _⟩ => ⟨S1072x9088, .i8⟩
  | .hbm, ⟨3, _⟩ => ⟨S1072x9088, .i8⟩
  | .hbm, ⟨4, _⟩ => ⟨S67x9088, .bf16⟩
  | .hbm, ⟨5, _⟩ => ⟨S67x909, .i32⟩
  | .hbm, ⟨6, _⟩ => ⟨S_, .i32⟩
  | .hbm, ⟨7, _⟩ => ⟨S_, .bf16⟩
  | .hbm, ⟨8, _⟩ => ⟨S96x1x8576, .bf16⟩
  | .hbm, ⟨9, _⟩ => ⟨S_, .i32⟩
  | .hbm, ⟨10, _⟩ => ⟨S67x909, .i32⟩
  | .hbm, ⟨11, _⟩ => ⟨S67x909, .i32⟩
  | .hbm, ⟨12, _⟩ => ⟨S_, .i32⟩
  | .hbm, ⟨13, _⟩ => ⟨S67x909, .i32⟩
  | .hbm, ⟨14, _⟩ => ⟨S67x909, .i32⟩
  | .hbm, ⟨15, _⟩ => ⟨S_, .i32⟩
  | .hbm, ⟨16, _⟩ => ⟨S67x909, .i32⟩
  | .hbm, ⟨17, _⟩ => ⟨S67x909, .i32⟩
  | .hbm, ⟨18, _⟩ => ⟨S_, .i32⟩
  | .hbm, ⟨19, _⟩ => ⟨S67x909, .i32⟩
  | .hbm, ⟨20, _⟩ => ⟨S67x909, .i32⟩
  | .hbm, ⟨21, _⟩ => ⟨S_, .i32⟩
  | .hbm, ⟨22, _⟩ => ⟨S67x909, .i32⟩
  | .hbm, ⟨23, _⟩ => ⟨S67x909, .i32⟩
  | .hbm, ⟨24, _⟩ => ⟨S_, .i32⟩
  | .hbm, ⟨25, _⟩ => ⟨S67x909, .i32⟩
  | .hbm, ⟨26, _⟩ => ⟨S67x909, .i32⟩
  | .hbm, ⟨27, _⟩ => ⟨S_, .i32⟩
  | .hbm, ⟨28, _⟩ => ⟨S67x909, .i32⟩
  | .hbm, ⟨29, _⟩ => ⟨S67x909, .i32⟩
  | .hbm, ⟨30, _⟩ => ⟨S_, .i32⟩
  | .hbm, ⟨31, _⟩ => ⟨S67x909, .i32⟩
  | .hbm, ⟨32, _⟩ => ⟨S67x909, .i32⟩
  | .hbm, ⟨33, _⟩ => ⟨S_, .i32⟩
  | .hbm, ⟨34, _⟩ => ⟨S67x909, .i32⟩
  | .hbm, ⟨35, _⟩ => ⟨S67x909, .i32⟩
  | .hbm, ⟨36, _⟩ => ⟨S_, .i32⟩
  | .hbm, ⟨37, _⟩ => ⟨S67x909, .i32⟩
  | .hbm, ⟨38, _⟩ => ⟨S67x909, .i32⟩
  | .hbm, ⟨39, _⟩ => ⟨S_, .i32⟩
  | .hbm, ⟨40, _⟩ => ⟨S67x909, .i32⟩
  | .hbm, ⟨41, _⟩ => ⟨S67x909, .i32⟩
  | .hbm, ⟨42, _⟩ => ⟨S_, .i32⟩
  | .hbm, ⟨43, _⟩ => ⟨S67x909, .i32⟩
  | .hbm, ⟨44, _⟩ => ⟨S67x909, .i32⟩
  | .hbm, ⟨45, _⟩ => ⟨S_, .i32⟩
  | .hbm, ⟨46, _⟩ => ⟨S67x909, .i32⟩
  | .hbm, ⟨47, _⟩ => ⟨S67x909, .i32⟩
  | .hbm, ⟨48, _⟩ => ⟨S_, .i32⟩
  | .hbm, ⟨49, _⟩ => ⟨S67x909, .i32⟩
  | .hbm, ⟨50, _⟩ => ⟨S67x909, .i32⟩
  | .hbm, ⟨51, _⟩ => ⟨S_, .i32⟩
  | .hbm, ⟨52, _⟩ => ⟨S67x909, .i32⟩
  | .hbm, ⟨53, _⟩ => ⟨S67x909, .i32⟩
  | .hbm, ⟨54, _⟩ => ⟨S_, .i32⟩
  | .hbm, ⟨55, _⟩ => ⟨S67x909, .i32⟩
  | .hbm, ⟨56, _⟩ => ⟨S67x909, .i32⟩
  | .hbm, ⟨57, _⟩ => ⟨S_, .i32⟩
  | .hbm, ⟨58, _⟩ => ⟨S67x909, .i32⟩
  | .hbm, ⟨59, _⟩ => ⟨S67x909, .i32⟩
  | .hbm, ⟨60, _⟩ => ⟨S_, .i32⟩
  | .hbm, ⟨61, _⟩ => ⟨S67x909, .i32⟩
  | .hbm, ⟨62, _⟩ => ⟨S67x909, .i32⟩
  | .hbm, ⟨63, _⟩ => ⟨S_, .i32⟩
  | .hbm, ⟨64, _⟩ => ⟨S67x909, .i32⟩
  | .hbm, ⟨65, _⟩ => ⟨S67x909, .i32⟩
  | .hbm, ⟨66, _⟩ => ⟨S_, .i32⟩
  | .hbm, ⟨67, _⟩ => ⟨S67x909, .i32⟩
  | .hbm, ⟨68, _⟩ => ⟨S67x909, .i32⟩
  | .hbm, ⟨69, _⟩ => ⟨S67x9090, .i32⟩
  | .hbm, ⟨70, _⟩ => ⟨S67x9088, .i32⟩
  | .hbm, ⟨71, _⟩ => ⟨S67x9088, .bf16⟩
  | .hbm, ⟨72, _⟩ => ⟨S8, .i32⟩
  | .hbm, ⟨73, _⟩ => ⟨S1x8x1, .i32⟩
  | .hbm, ⟨74, _⟩ => ⟨S1072x9088, .i32⟩
  | .hbm, ⟨75, _⟩ => ⟨S1072x1x9088, .i32⟩
  | .hbm, ⟨76, _⟩ => ⟨S1072x9088, .i32⟩
  | .hbm, ⟨77, _⟩ => ⟨S1072x1x9088, .i32⟩
  | .hbm, ⟨78, _⟩ => ⟨S1072x9088, .i32⟩
  | .hbm, ⟨79, _⟩ => ⟨S1072x1x9088, .i32⟩
  | .hbm, ⟨80, _⟩ => ⟨S1072x8x9088, .i32⟩
  | .hbm, ⟨81, _⟩ => ⟨S1072x8x9088, .i32⟩
  | .hbm, ⟨82, _⟩ => ⟨S1072x8x9088, .i32⟩
  | .hbm, ⟨83, _⟩ => ⟨S_, .i32⟩
  | .hbm, ⟨84, _⟩ => ⟨S1072x8x9088, .i32⟩
  | .hbm, ⟨85, _⟩ => ⟨S1072x8x9088, .i32⟩
  | .hbm, ⟨86, _⟩ => ⟨S1072x8x9088, .i32⟩
  | .hbm, ⟨87, _⟩ => ⟨S1072x8x9088, .i32⟩
  | .hbm, ⟨88, _⟩ => ⟨S1072x8x9088, .i32⟩
  | .hbm, ⟨89, _⟩ => ⟨S_, .i32⟩
  | .hbm, ⟨90, _⟩ => ⟨S1072x8x9088, .i32⟩
  | .hbm, ⟨91, _⟩ => ⟨S1072x8x9088, .i32⟩
  | .hbm, ⟨92, _⟩ => ⟨S_, .i32⟩
  | .hbm, ⟨93, _⟩ => ⟨S1072x8x9088, .i32⟩
  | .hbm, ⟨94, _⟩ => ⟨S1072x8x9088, .i32⟩
  | .hbm, ⟨95, _⟩ => ⟨S1072x8x9088, .i32⟩
  | .hbm, ⟨96, _⟩ => ⟨S1072x8x9088, .i32⟩
  | .hbm, ⟨97, _⟩ => ⟨S1072x8x9088, .i32⟩
  | .hbm, ⟨98, _⟩ => ⟨S1072x8x9088, .i32⟩
  | .hbm, ⟨99, _⟩ => ⟨S_, .i32⟩
  | .hbm, ⟨100, _⟩ => ⟨S1072x8x9088, .i32⟩
  | .hbm, ⟨101, _⟩ => ⟨S1072x8x9088, .i32⟩
  | .hbm, ⟨102, _⟩ => ⟨S_, .i32⟩
  | .hbm, ⟨103, _⟩ => ⟨S1072x8x9088, .i32⟩
  | .hbm, ⟨104, _⟩ => ⟨S1072x8x9088, .i32⟩
  | .hbm, ⟨105, _⟩ => ⟨S1072x8x9088, .i32⟩
  | .hbm, ⟨106, _⟩ => ⟨S1072x8x9088, .bf16⟩
  | .hbm, ⟨107, _⟩ => ⟨S67x16x8x9088, .bf16⟩
  | .hbm, ⟨108, _⟩ => ⟨S67x1x1x9088, .bf16⟩
  | .hbm, ⟨109, _⟩ => ⟨S67x16x8x9088, .bf16⟩
  | .hbm, ⟨110, _⟩ => ⟨S67x16x8x9088, .bf16⟩
  | .hbm, ⟨111, _⟩ => ⟨S67x1x1x9088, .bf16⟩
  | .hbm, ⟨112, _⟩ => ⟨S67x16x8x9088, .bf16⟩
  | .hbm, ⟨113, _⟩ => ⟨S67x16x8x9088, .bf16⟩
  | .hbm, ⟨114, _⟩ => ⟨S8576x9088, .bf16⟩
  | .hbm, ⟨115, _⟩ => ⟨S96x1x9088, .f32⟩
  | .hbm, ⟨116, _⟩ => ⟨S96x1x9088, .bf16⟩
  | .hbm, ⟨117, _⟩ => ⟨S96x9088, .bf16⟩
  | _, _ => ⟨S96x1x8576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_v12 : Ref sig .tc := ⟨.hbm, 26, rfl⟩
abbrev main_c_6 : Ref sig .tc := ⟨.hbm, 27, rfl⟩
abbrev main_v13 : Ref sig .tc := ⟨.hbm, 28, rfl⟩
abbrev main_v14 : Ref sig .tc := ⟨.hbm, 29, rfl⟩
abbrev main_c_7 : Ref sig .tc := ⟨.hbm, 30, rfl⟩
abbrev main_v15 : Ref sig .tc := ⟨.hbm, 31, rfl⟩
abbrev main_v16 : Ref sig .tc := ⟨.hbm, 32, rfl⟩
abbrev main_c_8 : Ref sig .tc := ⟨.hbm, 33, rfl⟩
abbrev main_v17 : Ref sig .tc := ⟨.hbm, 34, rfl⟩
abbrev main_v18 : Ref sig .tc := ⟨.hbm, 35, rfl⟩
abbrev main_c_9 : Ref sig .tc := ⟨.hbm, 36, rfl⟩
abbrev main_v19 : Ref sig .tc := ⟨.hbm, 37, rfl⟩
abbrev main_v20 : Ref sig .tc := ⟨.hbm, 38, rfl⟩
abbrev main_c_10 : Ref sig .tc := ⟨.hbm, 39, rfl⟩
abbrev main_v21 : Ref sig .tc := ⟨.hbm, 40, rfl⟩
abbrev main_v22 : Ref sig .tc := ⟨.hbm, 41, rfl⟩
abbrev main_c_11 : Ref sig .tc := ⟨.hbm, 42, rfl⟩
abbrev main_v23 : Ref sig .tc := ⟨.hbm, 43, rfl⟩
abbrev main_v24 : Ref sig .tc := ⟨.hbm, 44, rfl⟩
abbrev main_c_12 : Ref sig .tc := ⟨.hbm, 45, rfl⟩
abbrev main_v25 : Ref sig .tc := ⟨.hbm, 46, rfl⟩
abbrev main_v26 : Ref sig .tc := ⟨.hbm, 47, rfl⟩
abbrev main_c_13 : Ref sig .tc := ⟨.hbm, 48, rfl⟩
abbrev main_v27 : Ref sig .tc := ⟨.hbm, 49, rfl⟩
abbrev main_v28 : Ref sig .tc := ⟨.hbm, 50, rfl⟩
abbrev main_c_14 : Ref sig .tc := ⟨.hbm, 51, rfl⟩
abbrev main_v29 : Ref sig .tc := ⟨.hbm, 52, rfl⟩
abbrev main_v30 : Ref sig .tc := ⟨.hbm, 53, rfl⟩
abbrev main_c_15 : Ref sig .tc := ⟨.hbm, 54, rfl⟩
abbrev main_v31 : Ref sig .tc := ⟨.hbm, 55, rfl⟩
abbrev main_v32 : Ref sig .tc := ⟨.hbm, 56, rfl⟩
abbrev main_c_16 : Ref sig .tc := ⟨.hbm, 57, rfl⟩
abbrev main_v33 : Ref sig .tc := ⟨.hbm, 58, rfl⟩
abbrev main_v34 : Ref sig .tc := ⟨.hbm, 59, rfl⟩
abbrev main_c_17 : Ref sig .tc := ⟨.hbm, 60, rfl⟩
abbrev main_v35 : Ref sig .tc := ⟨.hbm, 61, rfl⟩
abbrev main_v36 : Ref sig .tc := ⟨.hbm, 62, rfl⟩
abbrev main_c_18 : Ref sig .tc := ⟨.hbm, 63, rfl⟩
abbrev main_v37 : Ref sig .tc := ⟨.hbm, 64, rfl⟩
abbrev main_v38 : Ref sig .tc := ⟨.hbm, 65, rfl⟩
abbrev main_c_19 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_20 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_21 : Ref sig .tc := ⟨.hbm, 89, rfl⟩
abbrev main_v60 : Ref sig .tc := ⟨.hbm, 90, rfl⟩
abbrev main_v61 : Ref sig .tc := ⟨.hbm, 91, rfl⟩
abbrev main_c_22 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_23 : Ref sig .tc := ⟨.hbm, 99, rfl⟩
abbrev main_v68 : Ref sig .tc := ⟨.hbm, 100, rfl⟩
abbrev main_v69 : Ref sig .tc := ⟨.hbm, 101, rfl⟩
abbrev main_c_24 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Proof.Body.lean ====
module

public import proofs.«01_k».proof.KernelIdeal
public import Idealize.ShloMosaic.Lib.Tactic

/-! # The kernel's body, by blocks

The printed body is one straight line: thirty-three blocks of the contraction that differ only in the
offsets they read, a half block, and at the first grid point the same number of permuted blocks of the
input. Here each kind of block is written once, as a program of its number, and the body is the chain of
them. `body_first` and `body_rest` say that the printed body is that chain. -/

@[expose] public section

set_option maxRecDepth 16384

noncomputable section

namespace Cert.KernelIdeal

open Idealize.ShloMosaic Idealize.SL.Sem

variable {F : FTy → Type} [FloatOps F]
variable [Facts]
open Facts₀ Facts

/-! ## The values of a block -/

/-- Plane bits to fields: which field of the nibbles of the three plane words, each nibble eight plus its code. -/
def fields8 (a b c : IVec S8x512 32) : Fin 4 → IVec S8x512 32 :=
  let v38 := andi (xori (shrui a (broadcast S8x512 1#32)) b) (broadcast S8x512 1431655765#32)
  let v39 := xori b v38
  let v42 := xori a (shli v38 (broadcast S8x512 1#32))
  let v44 := ori c (broadcast S8x512 2863311530#32)
  let v48 := ori (shrui c (broadcast S8x512 1#32)) (broadcast S8x512 2863311530#32)
  let v53 := andi (xori (shrui v42 (broadcast S8x512 2#32)) v44) (broadcast S8x512 858993459#32)
  let v58 := andi (xori (shrui v39 (broadcast S8x512 2#32)) v48) (broadcast S8x512 858993459#32)
  ![xori v42 (shli v53 (broadcast S8x512 2#32)), xori v39 (shli v58 (broadcast S8x512 2#32)), xori v44 v53, xori v48 v58]

/-- A field's words, less the zero points, as sixty-four rows of signed codes. -/
def codes64 (v z : IVec S8x512 32) : FVec F S64x512 .bf16 :=
  let w := xori (subi v z) (broadcast S8x512 2290649224#32)
  let w := shapeCast S8x1x512 w shapeCasts_S8x512_S8x1x512
  let w := shapeCast S8x1x512 w shapeCasts_S8x1x512_S8x1x512
  let w := broadcastTo S8x8x512 w broadcasts_S8x1x512_S8x8x512
  let w := shapeCast S64x512 w shapeCasts_S8x8x512_S64x512
  let s := subi (broadcast S64x512 28#32) (muli (broadcast S64x512 4#32)
    (andi (iota .tc S64x512 32 [0] iota_S64x512_d0_w32) (broadcast S64x512 7#32)))
  sitofp .bf16 (trunci 4 (shrsi (shli w s) (broadcast S64x512 28#32)) natLt_4_32)

/-- The eight-row zero points of a block: the first four rows of one group, the last four of the next. -/
def zeros8 (z0 z1 : IVec S1x512 32) : IVec S8x512 32 :=
  select (cmpi .slt (iota .tc S8x512 32 [0] iota_S8x512_d0_w32) (broadcast S8x512 4#32))
    (broadcastTo S8x512 (shapeCast S1x512 z0 shapeCasts_S1x512_S1x512) broadcasts_S1x512_S8x512)
    (broadcastTo S8x512 (shapeCast S1x512 z1 shapeCasts_S1x512_S1x512) broadcasts_S1x512_S8x512)

/-- Sixteen rows of one group's scales, from the word buffer's row. -/
def scale16 (raw : Vec F S1x2x512 .bf16) : FVec F S16x512 .bf16 :=
  let v := interleaveRows S2x512
    (shapeCast S1x512 (rowsOfParity 0 S1x1x512 raw bitcasts_S1x2x512_w16_S1x1x512_w32) shapeCasts_S1x1x512_S1x512)
    (shapeCast S1x512 (rowsOfParity 1 S1x1x512 raw bitcasts_S1x2x512_w16_S1x1x512_w32) shapeCasts_S1x1x512_S1x512)
    bitcasts_S2x512_w16_S1x512_w32
  let v := shapeCast S1x2x512 v shapeCasts_S2x512_S1x2x512
  let v := shapeCast S1x2x512 v shapeCasts_S1x2x512_S1x2x512
  shapeCast S16x512 (broadcastTo S8x2x512 v broadcasts_S1x2x512_S8x2x512) shapeCasts_S8x2x512_S16x512

/-- A block's dequantized weights. -/
def weights (a b c : IVec S8x512 32) (z : IVec S8x512 32) (s0 s1 : FVec F S16x512 .bf16) : FVec F S256x512 .bf16 :=
  let f := fields8 a b c
  let q0 : FVec F S64x512 .bf16 := codes64 (f 0) z
  let q1 : FVec F S64x512 .bf16 := codes64 (f 1) z
  let q2 : FVec F S64x512 .bf16 := codes64 (f 2) z
  let q3 : FVec F S64x512 .bf16 := codes64 (f 3) z
  concatenate S256x512 0 [
    ⟨S16x512, mulf (extractStridedSlice S16x512 ![0, 0] q0 slices_S64x512_o0_0_S16x512) s0⟩,
    ⟨S16x512, mulf (extractStridedSlice S16x512 ![16, 0] q0 slices_S64x512_o16_0_S16x512) s0⟩,
    ⟨S16x512, mulf (extractStridedSlice S16x512 ![32, 0] q0 slices_S64x512_o32_0_S16x512) s1⟩,
    ⟨S16x512, mulf (extractStridedSlice S16x512 ![48, 0] q0 slices_S64x512_o48_0_S16x512) s1⟩,
    ⟨S16x512, mulf (extractStridedSlice S16x512 ![0, 0] q1 slices_S64x512_o0_0_S16x512) s0⟩,
    ⟨S16x512, mulf (extractStridedSlice S16x512 ![16, 0] q1 slices_S64x512_o16_0_S16x512) s0⟩,
    ⟨S16x512, mulf (extractStridedSlice S16x512 ![32, 0] q1 slices_S64x512_o32_0_S16x512) s1⟩,
    ⟨S16x512, mulf (extractStridedSlice S16x512 ![48, 0] q1 slices_S64x512_o48_0_S16x512) s1⟩,
    ⟨S16x512, mulf (extractStridedSlice S16x512 ![0, 0] q2 slices_S64x512_o0_0_S16x512) s0⟩,
    ⟨S16x512, mulf (extractStridedSlice S16x512 ![16, 0] q2 slices_S64x512_o16_0_S16x512) s0⟩,
    ⟨S16x512, mulf (extractStridedSlice S16x512 ![32, 0] q2 slices_S64x512_o32_0_S16x512) s1⟩,
    ⟨S16x512, mulf (extractStridedSlice S16x512 ![48, 0] q2 slices_S64x512_o48_0_S16x512) s1⟩,
    ⟨S16x512, mulf (extractStridedSlice S16x512 ![0, 0] q3 slices_S64x512_o0_0_S16x512) s0⟩,
    ⟨S16x512, mulf (extractStridedSlice S16x512 ![16, 0] q3 slices_S64x512_o16_0_S16x512) s0⟩,
    ⟨S16x512, mulf (extractStridedSlice S16x512 ![32, 0] q3 slices_S64x512_o32_0_S16x512) s1⟩,
    ⟨S16x512, mulf (extractStridedSlice S16x512 ![48, 0] q3 slices_S64x512_o48_0_S16x512) s1⟩]
    concatenates_S16x512_S16x512_S16x512_S16x512_S16x512_S16x512_S16x512_S16x512_S16x512_S16x512_S16x512_S16x512_S16x512_S16x512_S16x512_S16x512_S256x512_d0

/-- `fields8` of the half block. -/
def fields4 (a b c : IVec S4x512 32) : Fin 4 → IVec S4x512 32 :=
  let v38 := andi (xori (shrui a (broadcast S4x512 1#32)) b) (broadcast S4x512 1431655765#32)
  let v39 := xori b v38
  let v42 := xori a (shli v38 (broadcast S4x512 1#32))
  let v44 := ori c (broadcast S4x512 2863311530#32)
  let v48 := ori (shrui c (broadcast S4x512 1#32)) (broadcast S4x512 2863311530#32)
  let v53 := andi (xori (shrui v42 (broadcast S4x512 2#32)) v44) (broadcast S4x512 858993459#32)
  let v58 := andi (xori (shrui v39 (broadcast S4x512 2#32)) v48) (broadcast S4x512 858993459#32)
  ![xori v42 (shli v53 (broadcast S4x512 2#32)), xori v39 (shli v58 (broadcast S4x512 2#32)), xori v44 v53, xori v48 v58]

/-- `codes64` of the half block. -/
def codes32 (v z : IVec S4x512 32) : FVec F S32x512 .bf16 :=
  let w := xori (subi v z) (broadcast S4x512 2290649224#32)
  let w := shapeCast S4x1x512 w shapeCasts_S4x512_S4x1x512
  let w := shapeCast S4x1x512 w shapeCasts_S4x1x512_S4x1x512
  let w := broadcastTo S4x8x512 w broadcasts_S4x1x512_S4x8x512
  let w := shapeCast S32x512 w shapeCasts_S4x8x512_S32x512
  let s := subi (broadcast S32x512 28#32) (muli (broadcast S32x512 4#32)
    (andi (iota .tc S32x512 32 [0] iota_S32x512_d0_w32) (broadcast S32x512 7#32)))
  sitofp .bf16 (trunci 4 (shrsi (shli w s) (broadcast S32x512 28#32)) natLt_4_32)

/-- `weights` of the half block. -/
def weightsHalf (a b c : IVec S4x512 32) (z : IVec S1x512 32) (s : FVec F S16x512 .bf16) : FVec F S128x512 .bf16 :=
  let f := fields4 a b c
  let z := broadcastTo S4x512 (shapeCast S1x512 z shapeCasts_S1x512_S1x512) broadcasts_S1x512_S4x512
  let q0 : FVec F S32x512 .bf16 := codes32 (f 0) z
  let q1 : FVec F S32x512 .bf16 := codes32 (f 1) z
  let q2 : FVec F S32x512 .bf16 := codes32 (f 2) z
  let q3 : FVec F S32x512 .bf16 := codes32 (f 3) z
  concatenate S128x512 0 [
    ⟨S16x512, mulf (extractStridedSlice S16x512 ![0, 0] q0 slices_S32x512_o0_0_S16x512) s⟩,
    ⟨S16x512, mulf (extractStridedSlice S16x512 ![16, 0] q0 slices_S32x512_o16_0_S16x512) s⟩,
    ⟨S16x512, mulf (extractStridedSlice S16x512 ![0, 0] q1 slices_S32x512_o0_0_S16x512) s⟩,
    ⟨S16x512, mulf (extractStridedSlice S16x512 ![16, 0] q1 slices_S32x512_o16_0_S16x512) s⟩,
    ⟨S16x512, mulf (extractStridedSlice S16x512 ![0, 0] q2 slices_S32x512_o0_0_S16x512) s⟩,
    ⟨S16x512, mulf (extractStridedSlice S16x512 ![16, 0] q2 slices_S32x512_o16_0_S16x512) s⟩,
    ⟨S16x512, mulf (extractStridedSlice S16x512 ![0, 0] q3 slices_S32x512_o0_0_S16x512) s⟩,
    ⟨S16x512, mulf (extractStridedSlice S16x512 ![16, 0] q3 slices_S32x512_o16_0_S16x512) s⟩]
    concatenates_S16x512_S16x512_S16x512_S16x512_S16x512_S16x512_S16x512_S16x512_S128x512_d0

/-! ## The offsets of block `r` -/

omit [Facts] in
theorem inbP {r : Nat} (h : r < 33) : ∀ a, (![32 * r, 0] : Fin 2 → Nat) a + S32x512.size a ≤ S1072x512.size a := by
  intro a
  rcases Fin.exists_fin_two.1 ⟨a, rfl⟩ with rfl | rfl
  · show 32 * r + 32 ≤ 1072; omega
  · show 0 + 512 ≤ 512; omega

/-- The corner of row `z` of the unpacked zero points at this grid point's columns. -/
def zoff (i : grid0.Coords) (z : Nat) : Fin 2 → Nat :=
  ![z, (Scalar.indexCast (Scalar.muli (BitVec.ofNat 32 (i 0).val) 512#32)).toNat]

omit [Facts] in
theorem zcol_eq (i : grid0.Coords) :
    (Scalar.indexCast (Scalar.muli (BitVec.ofNat 32 (i 0).val) 512#32)).toNat = 512 * (i 0).val := by
  have h : ∀ t : Fin 18, (Scalar.indexCast (Scalar.muli (BitVec.ofNat 32 t.val) 512#32)).toNat = 512 * t.val := by
    decide +kernel
  exact h (i 0)

omit [Facts] in
theorem inbZ (i : grid0.Coords) {z : Nat} (h : z < 67) : ∀ a, zoff i z a + S1x512.size a ≤ S67x9216.size a := by
  intro a
  rcases Fin.exists_fin_two.1 ⟨a, rfl⟩ with rfl | rfl
  · show z + 1 ≤ 67; omega
  · show (Scalar.indexCast (Scalar.muli (BitVec.ofNat 32 (i 0).val) 512#32)).toNat + 512 ≤ 9216
    rw [zcol_eq]
    have : (i 0).val < 18 := (i 0).isLt
    omega

omit [Facts] in
theorem inbS {z : Nat} (h : z < 67) : ∀ a, (![z, 0, 0] : Fin 3 → Nat) a + S1x2x512.size a ≤ S67x2x512.size a := by
  have e : ∀ z : Fin 67, ∀ a, (![z.val, 0, 0] : Fin 3 → Nat) a + S1x2x512.size a ≤ S67x2x512.size a := by
    decide +kernel
  exact e ⟨z, h⟩

omit [Facts] in
theorem inbX {r : Nat} (h : r < 33) : ∀ a, (![0, 256 * r] : Fin 2 → Nat) a + S96x256.size a ≤ S96x8576.size a := by
  intro a
  rcases Fin.exists_fin_two.1 ⟨a, rfl⟩ with rfl | rfl
  · show 0 + 96 ≤ 96; omega
  · show 256 * r + 256 ≤ 8576; omega

omit [Facts] in
theorem packedX {r : Nat} (h : r < 33) : (Rect.unit (s := S96x8576) ![0, 256 * r] S96x256.size (inbX h)).PackedRows (EltTy.packing .bf16) := by
  have e : ∀ r : Fin 33, (Rect.unit (s := S96x8576) ![0, 256 * r.val] S96x256.size (inbX r.isLt)).PackedRows (EltTy.packing .bf16) := by
    decide +kernel
  exact e ⟨r, h⟩

omit [Facts] in
theorem inbT {f : Nat} (h : f < 9) : ∀ a, (![0, 909 * f] : Fin 2 → Nat) a + S67x909.size a ≤ S67x9216.size a := by
  intro a
  rcases Fin.exists_fin_two.1 ⟨a, rfl⟩ with rfl | rfl
  · show 0 + 67 ≤ 67; omega
  · show 909 * f + 909 ≤ 9216; omega

/-! ## The blocks -/

/-- Block `r`: the accumulator plus this block's product. -/
def blk (i : grid0.Coords) (arg2 arg3 arg4 : Memref sig .tc .vmem S1072x512 .i8)
    (arg8 : Memref sig .tc .vmem S96x8576 .bf16) (arg9 : Memref sig .tc .vmem S67x9216 .i32)
    (arg10 : Memref sig .tc .vmem S67x2x512 .bf16) (r : Nat) (h : r < 33) (acc : FVec F S96x512 .f32) :
    Prog (TpuEff nD τ sig (Elt F) Λ₀ .tc) (FVec F S96x512 .f32) := do
  let a : Vec F S32x512 .i8 ← Prog.lift (.load arg2 (Rect.unit (s := S1072x512) ![32 * r, 0] S32x512.size (inbP h)).toLoadRect (View.loadsAt_vmem h_S32x512))
  let b : Vec F S32x512 .i8 ← Prog.lift (.load arg3 (Rect.unit (s := S1072x512) ![32 * r, 0] S32x512.size (inbP h)).toLoadRect (View.loadsAt_vmem h_S32x512))
  let c : Vec F S32x512 .i8 ← Prog.lift (.load arg4 (Rect.unit (s := S1072x512) ![32 * r, 0] S32x512.size (inbP h)).toLoadRect (View.loadsAt_vmem h_S32x512))
  let z0 : Vec F S1x512 .i32 ← Prog.lift (.load arg9 (Rect.unit (s := S67x9216) (zoff i (2 * r)) S1x512.size (inbZ i (by omega))).toLoadRect (View.loadsAt_vmem h_S1x512))
  let z1 : Vec F S1x512 .i32 ← Prog.lift (.load arg9 (Rect.unit (s := S67x9216) (zoff i (2 * r + 1)) S1x512.size (inbZ i (by omega))).toLoadRect (View.loadsAt_vmem h_S1x512))
  let s0 : Vec F S1x2x512 .bf16 ← Prog.lift (.load arg10 (Rect.unit (s := S67x2x512) ![2 * r, 0, 0] S1x2x512.size (inbS (by omega))).toLoadRect (View.loadsAt_vmem h_S1x2x512))
  let s1 : Vec F S1x2x512 .bf16 ← Prog.lift (.load arg10 (Rect.unit (s := S67x2x512) ![2 * r + 1, 0, 0] S1x2x512.size (inbS (by omega))).toLoadRect (View.loadsAt_vmem h_S1x2x512))
  let x : Vec F S96x256 .bf16 ← Prog.lift (.load arg8 (Rect.unit (s := S96x8576) ![0, 256 * r] S96x256.size (inbX h)).toLoadRect (View.loadsAt_vmem h_S96x256))
  pure (addf acc (matmul dot_S96x256_S256x512_S96x512_1_0_0_1_n_n none x
    (weights (bitcast S8x512 32 a bitcasts_S32x512_w8_S8x512_w32) (bitcast S8x512 32 b bitcasts_S32x512_w8_S8x512_w32)
      (bitcast S8x512 32 c bitcasts_S32x512_w8_S8x512_w32) (zeros8 z0 z1) (scale16 s0) (scale16 s1))
    (constant S96x512 .f32 0x00000000#32)))

/-- The half block that ends the contraction. -/
def half (i : grid0.Coords) (arg2 arg3 arg4 : Memref sig .tc .vmem S1072x512 .i8)
    (arg8 : Memref sig .tc .vmem S96x8576 .bf16) (arg9 : Memref sig .tc .vmem S67x9216 .i32)
    (arg10 : Memref sig .tc .vmem S67x2x512 .bf16) (acc : FVec F S96x512 .f32) :
    Prog (TpuEff nD τ sig (Elt F) Λ₀ .tc) (FVec F S96x512 .f32) := do
  let a : Vec F S16x512 .i8 ← Prog.lift (.load arg2 (Rect.unit (s := S1072x512) ![1056, 0] S16x512.size inb_S1072x512_S16x512_1056_0).toLoadRect (View.loadsAt_vmem h_S16x512))
  let b : Vec F S16x512 .i8 ← Prog.lift (.load arg3 (Rect.unit (s := S1072x512) ![1056, 0] S16x512.size inb_S1072x512_S16x512_1056_0).toLoadRect (View.loadsAt_vmem h_S16x512))
  let c : Vec F S16x512 .i8 ← Prog.lift (.load arg4 (Rect.unit (s := S1072x512) ![1056, 0] S16x512.size inb_S1072x512_S16x512_1056_0).toLoadRect (View.loadsAt_vmem h_S16x512))
  let z : Vec F S1x512 .i32 ← Prog.lift (.load arg9 (Rect.unit (s := S67x9216) (zoff i 66) S1x512.size (inbZ i (by omega))).toLoadRect (View.loadsAt_vmem h_S1x512))
  let s : Vec F S1x2x512 .bf16 ← Prog.lift (.load arg10 (Rect.unit (s := S67x2x512) ![66, 0, 0] S1x2x512.size (inbS (by omega))).toLoadRect (View.loadsAt_vmem h_S1x2x512))
  let x : Vec F S96x128 .bf16 ← Prog.lift (.load arg8 (Rect.unit (s := S96x8576) ![0, 8448] S96x128.size inb_S96x8576_S96x128_0_8448).toLoadRect (View.loadsAt_vmem h_S96x128))
  pure (addf acc (matmul dot_S96x128_S128x512_S96x512_1_0_0_1_n_n none x
    (weightsHalf (bitcast S4x512 32 a bitcasts_S16x512_w8_S4x512_w32) (bitcast S4x512 32 b bitcasts_S16x512_w8_S4x512_w32)
      (bitcast S4x512 32 c bitcasts_S16x512_w8_S4x512_w32) z (scale16 s))
    (constant S96x512 .f32 0x00000000#32)))

/-- `n` blocks from block `r` on. -/
def chain (i : grid0.Coords) (arg2 arg3 arg4 : Memref sig .tc .vmem S1072x512 .i8)
    (arg8 : Memref sig .tc .vmem S96x8576 .bf16) (arg9 : Memref sig .tc .vmem S67x9216 .i32)
    (arg10 : Memref sig .tc .vmem S67x2x512 .bf16) : (n r : Nat) → r + n ≤ 33 → FVec F S96x512 .f32 →
    Prog (TpuEff nD τ sig (Elt F) Λ₀ .tc) (FVec F S96x512 .f32)
  | 0, _, _, acc => pure acc
  | n + 1, r, h, acc => do
    let acc ← blk i arg2 arg3 arg4 arg8 arg9 arg10 r (by omega) acc
    chain i arg2 arg3 arg4 arg8 arg9 arg10 n (r + 1) (by omega) acc

/-- The scales, stored as words of two equal halves. -/
def scaleWords (s : Vec F S67x512 .bf16) : Vec F S67x2x512 .bf16 :=
  have v4 : FVec F S67x512 .f32 := extf .f32 s bitsLt_bf16_f32
  interleaveRows S67x2x512 (shapeCast S67x1x512 (truncf .bf16 v4) shapeCasts_S67x512_S67x1x512)
    (shapeCast S67x1x512 (truncf .bf16 v4) shapeCasts_S67x512_S67x1x512) bitcasts_S67x2x512_w16_S67x1x512_w32

/-- The body at every grid point: the scales' words, the contraction, the stored product. -/
def rest (i : grid0.Coords) (arg2 arg3 arg4 : Memref sig .tc .vmem S1072x512 .i8) (arg5 : Memref sig .tc .vmem S67x512 .bf16)
    (arg7 : Memref sig .tc .vmem S96x512 .bf16) (harg7 : arg7.IsWhole)
    (arg8 : Memref sig .tc .vmem S96x8576 .bf16) (arg9 : Memref sig .tc .vmem S67x9216 .i32)
    (arg10 : Memref sig .tc .vmem S67x2x512 .bf16) (harg10 : arg10.IsWhole) :
    Prog (TpuEff nD τ sig (Elt F) Λ₀ .tc) PUnit := do
  let s : Vec F S67x512 .bf16 ← Prog.lift (.load arg5 (Rect.unit (s := S67x512) ![0, 0] S67x512.size inb_S67x512_S67x512_0_0).toLoadRect (View.loadsAt_vmem h_S67x512))
  let _ : Vec F S67x2x512 .bf16 ← Prog.lift (.load arg10 (Rect.unit (s := S67x2x512) ![0, 0, 0] S67x2x512.size inb_S67x2x512_S67x2x512_0_0_0).toLoadRect (View.loadsAt_vmem h_S67x2x512))
  Prog.lift (.store arg10 (Rect.unit (s := S67x2x512) ![0, 0, 0] S67x2x512.size inb_S67x2x512_S67x2x512_0_0_0) (scaleWords s) Finset.univ (View.stores_vmem h_S67x2x512 ((harg10.pairWhole rank2_S67x2x512).storeExact_slice rfl _ (Rect.wholeRows_unit rank2_S67x2x512 rfl rfl) pairs_S67x2x512_bf16) (fun _ => rfl)) (.inl rfl))
  let acc ← chain i arg2 arg3 arg4 arg8 arg9 arg10 33 0 (by omega) (broadcast S96x512 (Scalar.ofBits .f32 0x00000000#32))
  let acc ← half i arg2 arg3 arg4 arg8 arg9 arg10 acc
  let _ : Vec F S96x512 .bf16 ← Prog.lift (.load arg7 (Rect.unit (s := S96x512) ![0, 0] S96x512.size inb_S96x512_S96x512_0_0).toLoadRect (View.loadsAt_vmem h_S96x512))
  Prog.lift (.store arg7 (Rect.unit (s := S96x512) ![0, 0] S96x512.size inb_S96x512_S96x512_0_0) (truncf .bf16 acc bitsLt_bf16_f32) Finset.univ (View.stores_vmem h_S96x512 (harg7.storeExact_slice rfl _ packedbf16_S96x512_S96x512_0_0) (fun _ => rfl)) (.inl rfl))
  pure ⟨⟩

/-! ## The first grid point -/

/-- Where a permuted block's columns come from: column `j` from `4 * (j % 64) + j / 64`. -/
def permSrc256 : IVec S256x256 32 :=
  let d := iota .tc S256x256 32 [1] iota_S256x256_d1_w32
  let n : BitVec 32 := Scalar.select (Scalar.cmpi .eq 64#32 0#32) 1#32 64#32
  let m := remsi d (broadcast S256x256 n)
  let m := select (andi (xori (cmpi .slt m (broadcast S256x256 0#32))
      (broadcastTo S256x256 (broadcast S256x256 (Scalar.cmpi .slt n 0#32)) broadcasts_S256x256_S256x256))
      (cmpi .ne m (broadcast S256x256 0#32))) (addi m (broadcast S256x256 n)) m
  let q := divsi d (broadcast S256x256 64#32)
  let sg := subi (extui 32 (cmpi .sgt d (broadcast S256x256 0#32)) natLt_1_32) (extui 32 (cmpi .slt d (broadcast S256x256 0#32)) natLt_1_32)
  let sn : BitVec 32 := Scalar.subi (Scalar.extui (Scalar.cmpi .sgt 64#32 0#32)) (Scalar.extui (Scalar.cmpi .slt 64#32 0#32))
  let q := select (andi (cmpi .ne sg (broadcast S256x256 sn))
      (cmpi .ne (remsi d (broadcast S256x256 64#32)) (broadcast S256x256 0#32))) (subi q (broadcast S256x256 1#32)) q
  addi (muli (broadcast S256x256 4#32) m) q

/-- The permutation of a block's columns, as a matrix of zeros and ones. -/
def perm256 : FVec F S256x256 .bf16 :=
  truncf .bf16 (select (cmpi .eq (iota .tc S256x256 32 [0] iota_S256x256_d0_w32) permSrc256)
    (broadcast S256x256 (Scalar.ofBits .f32 0x3F800000#32 : F .f32)) (broadcast S256x256 (Scalar.ofBits .f32 0x00000000#32 : F .f32))) bitsLt_bf16_f32

/-- `permSrc256` of the half block: column `j` from `4 * (j % 32) + j / 32`. -/
def permSrc128 : IVec S128x128 32 :=
  let d := iota .tc S128x128 32 [1] iota_S128x128_d1_w32
  let n : BitVec 32 := Scalar.select (Scalar.cmpi .eq 32#32 0#32) 1#32 32#32
  let m := remsi d (broadcast S128x128 n)
  let m := select (andi (xori (cmpi .slt m (broadcast S128x128 0#32))
      (broadcastTo S128x128 (broadcast S128x128 (Scalar.cmpi .slt n 0#32)) broadcasts_S128x128_S128x128))
      (cmpi .ne m (broadcast S128x128 0#32))) (addi m (broadcast S128x128 n)) m
  let q := divsi d (broadcast S128x128 32#32)
  let sg := subi (extui 32 (cmpi .sgt d (broadcast S128x128 0#32)) natLt_1_32) (extui 32 (cmpi .slt d (broadcast S128x128 0#32)) natLt_1_32)
  let sn : BitVec 32 := Scalar.subi (Scalar.extui (Scalar.cmpi .sgt 32#32 0#32)) (Scalar.extui (Scalar.cmpi .slt 32#32 0#32))
  let q := select (andi (cmpi .ne sg (broadcast S128x128 sn))
      (cmpi .ne (remsi d (broadcast S128x128 32#32)) (broadcast S128x128 0#32))) (subi q (broadcast S128x128 1#32)) q
  addi (muli (broadcast S128x128 4#32) m) q

/-- `perm256` of the half block. -/
def perm128 : FVec F S128x128 .bf16 :=
  truncf .bf16 (select (cmpi .eq (iota .tc S128x128 32 [0] iota_S128x128_d0_w32) permSrc128)
    (broadcast S128x128 (Scalar.ofBits .f32 0x3F800000#32 : F .f32)) (broadcast S128x128 (Scalar.ofBits .f32 0x00000000#32 : F .f32))) bitsLt_bf16_f32

/-- A block of the input, its columns permuted. -/
def permuted256 (x : Vec F S96x256 .bf16) : Vec F S96x256 .bf16 :=
  shapeCast S96x256 (truncf .bf16 (matmul dot_S96x256_S256x256_S96x256_1_0_0_1_n_n none
    (shapeCast S96x256 x shapeCasts_S96x256_S96x256) (perm256 (F := F)) (constant S96x256 .f32 0x00000000#32)) bitsLt_bf16_f32) shapeCasts_S96x256_S96x256

/-- The half block of the input, its columns permuted. -/
def permuted128 (x : Vec F S96x128 .bf16) : Vec F S96x128 .bf16 :=
  shapeCast S96x128 (truncf .bf16 (matmul dot_S96x128_S128x128_S96x128_1_0_0_1_n_n none
    (shapeCast S96x128 x shapeCasts_S96x128_S96x128) (perm128 (F := F)) (constant S96x128 .f32 0x00000000#32)) bitsLt_bf16_f32) shapeCasts_S96x128_S96x128

/-- Block `r` of the input, permuted into the scratch. -/
def permBlk (arg1 arg8 : Memref sig .tc .vmem S96x8576 .bf16) (harg8 : arg8.IsWhole) (r : Nat) (h : r < 33) :
    Prog (TpuEff nD τ sig (Elt F) Λ₀ .tc) PUnit := do
  let x : Vec F S96x256 .bf16 ← Prog.lift (.load arg1 (Rect.unit (s := S96x8576) ![0, 256 * r] S96x256.size (inbX h)).toLoadRect (View.loadsAt_vmem h_S96x256))
  let _ : Vec F S96x256 .bf16 ← Prog.lift (.load arg8 (Rect.unit (s := S96x8576) ![0, 256 * r] S96x256.size (inbX h)).toLoadRect (View.loadsAt_vmem h_S96x256))
  Prog.lift (.store arg8 (Rect.unit (s := S96x8576) ![0, 256 * r] S96x256.size (inbX h)) (permuted256 x) Finset.univ (View.stores_vmem h_S96x256 (harg8.storeExact_slice rfl _ (packedX h)) (fun _ => rfl)) (.inl rfl))

/-- The half block of the input, permuted into the scratch. -/
def permHalf (arg1 arg8 : Memref sig .tc .vmem S96x8576 .bf16) (harg8 : arg8.IsWhole) :
    Prog (TpuEff nD τ sig (Elt F) Λ₀ .tc) PUnit := do
  let x : Vec F S96x128 .bf16 ← Prog.lift (.load arg1 (Rect.unit (s := S96x8576) ![0, 8448] S96x128.size inb_S96x8576_S96x128_0_8448).toLoadRect (View.loadsAt_vmem h_S96x128))
  let _ : Vec F S96x128 .bf16 ← Prog.lift (.load arg8 (Rect.unit (s := S96x8576) ![0, 8448] S96x128.size inb_S96x8576_S96x128_0_8448).toLoadRect (View.loadsAt_vmem h_S96x128))
  Prog.lift (.store arg8 (Rect.unit (s := S96x8576) ![0, 8448] S96x128.size inb_S96x8576_S96x128_0_8448) (permuted128 x) Finset.univ (View.stores_vmem h_S96x128 (harg8.storeExact_slice rfl _ packedbf16_S96x8576_S96x128_0_8448) (fun _ => rfl)) (.inl rfl))

/-- `n` permuted blocks from block `r` on. -/
def permChain (arg1 arg8 : Memref sig .tc .vmem S96x8576 .bf16) (harg8 : arg8.IsWhole) : (n r : Nat) → r + n ≤ 33 →
    Prog (TpuEff nD τ sig (Elt F) Λ₀ .tc) PUnit
  | 0, _, _ => pure ⟨⟩
  | n + 1, r, h => do
    permBlk arg1 arg8 harg8 r (by omega)
    permChain arg1 arg8 harg8 n (r + 1) (by omega)

/-- The zero points of field `f` of the packed words, each copied to the eight nibbles of its word. -/
def zeroField (zp : IVec S67x909 32) (f : Nat) : IVec S67x909 32 :=
  muli (andi (shrui zp (broadcast S67x909 (BitVec.ofNat 32 (3 * f)))) (broadcast S67x909 7#32)) (broadcast S67x909 286331153#32)

/-- Field `f` of the zero points, stored at its columns. -/
def zeroBlk (arg9 : Memref sig .tc .vmem S67x9216 .i32) (zp : IVec S67x909 32) (f : Nat) (h : f < 9) :
    Prog (TpuEff nD τ sig (Elt F) Λ₀ .tc) PUnit := do
  let _ : Vec F S67x909 .i32 ← Prog.lift (.load arg9 (Rect.unit (s := S67x9216) ![0, 909 * f] S67x909.size (inbT h)).toLoadRect (View.loadsAt_vmem h_S67x909))
  Prog.lift (.store arg9 (Rect.unit (s := S67x9216) ![0, 909 * f] S67x909.size (inbT h)) (shapeCast S67x909 (zeroField zp f) shapeCasts_S67x909_S67x909) Finset.univ (View.stores_vmem_bits_univ h_S67x909 rfl) (.inl rfl))

/-- `n` fields of the zero points from field `f` on. -/
def zeroChain (arg9 : Memref sig .tc .vmem S67x9216 .i32) (zp : IVec S67x909 32) : (n f : Nat) → f + n ≤ 9 →
    Prog (TpuEff nD τ sig (Elt F) Λ₀ .tc) PUnit
  | 0, _, _ => pure ⟨⟩
  | n + 1, f, h => do
    zeroBlk arg9 zp f (by omega)
    zeroChain arg9 zp n (f + 1) (by omega)

/-- The last field of the zero points, short by the columns past the weights'. -/
def zeroLast (arg9 : Memref sig .tc .vmem S67x9216 .i32) (zp : IVec S67x909 32) :
    Prog (TpuEff nD τ sig (Elt F) Λ₀ .tc) PUnit := do
  let _ : Vec F S67x907 .i32 ← Prog.lift (.load arg9 (Rect.unit (s := S67x9216) ![0, 8181] S67x907.size inb_S67x9216_S67x907_0_8181).toLoadRect (View.loadsAt_vmem h_S67x907))
  Prog.lift (.store arg9 (Rect.unit (s := S67x9216) ![0, 8181] S67x907.size inb_S67x9216_S67x907_0_8181) (shapeCast S67x907 (extractStridedSlice S67x907 ![0, 0] (zeroField zp 9) slices_S67x909_o0_0_S67x907) shapeCasts_S67x907_S67x907) Finset.univ (View.stores_vmem_bits_univ h_S67x907 rfl) (.inl rfl))

/-- What the first grid point does before its contraction: the permuted input and the unpacked zero points. -/
def prologue (arg1 : Memref sig .tc .vmem S96x8576 .bf16) (arg6 : Memref sig .tc .vmem S67x909 .i32)
    (arg8 : Memref sig .tc .vmem S96x8576 .bf16) (harg8 : arg8.IsWhole) (arg9 : Memref sig .tc .vmem S67x9216 .i32) :
    Prog (TpuEff nD τ sig (Elt F) Λ₀ .tc) PUnit := do
  permChain arg1 arg8 harg8 33 0 (by omega)
  permHalf arg1 arg8 harg8
  let zp : Vec F S67x909 .i32 ← Prog.lift (.load arg6 (Rect.unit (s := S67x909) ![0, 0] S67x909.size inb_S67x909_S67x909_0_0).toLoadRect (View.loadsAt_vmem h_S67x909))
  zeroChain arg9 zp 9 0 (by omega)
  zeroLast arg9 zp

/-! ## The printed body is the chain -/

/-- The printed body's branch word: is this the first grid point? -/
def firstWord (i : grid0.Coords) : BitVec 1 :=
  Scalar.cmpi .ne (Scalar.extui (Scalar.cmpi .eq (BitVec.ofNat 32 (i 0).val) 0#32) : BitVec 32) 0#32

omit [Facts] in
theorem firstWord_iff (i : grid0.Coords) : firstWord i = 1#1 ↔ (i 0).val = 0 := by
  have h : ∀ t : Fin 18, (Scalar.cmpi .ne (Scalar.extui (Scalar.cmpi .eq (BitVec.ofNat 32 t.val) 0#32) : BitVec 32) 0#32) = 1#1 ↔ t.val = 0 := by
    decide +kernel
  exact h (i 0)

section
variable (i : grid0.Coords) (arg1 : Memref sig .tc .vmem S96x8576 .bf16) (harg1 : arg1.IsWhole) (arg2 : Memref sig .tc .vmem S1072x512 .i8) (harg2 : arg2.IsWhole) (arg3 : Memref sig .tc .vmem S1072x512 .i8) (harg3 : arg3.IsWhole) (arg4 : Memref sig .tc .vmem S1072x512 .i8) (harg4 : arg4.IsWhole) (arg5 : Memref sig .tc .vmem S67x512 .bf16) (harg5 : arg5.IsWhole) (arg6 : Memref sig .tc .vmem S67x909 .i32) (harg6 : arg6.IsWhole) (arg7 : Memref sig .tc .vmem S96x512 .bf16) (harg7 : arg7.IsWhole) (arg8 : Memref sig .tc .vmem S96x8576 .bf16) (harg8 : arg8.IsWhole) (arg9 : Memref sig .tc .vmem S67x9216 .i32) (harg9 : arg9.IsWhole) (arg10 : Memref sig .tc .vmem S67x2x512 .bf16) (harg10 : arg10.IsWhole)

/-- Past the first grid point the printed body is the contraction alone. -/
theorem body_rest (hi : ¬ firstWord i = 1#1) :
    cc0_w3_linear (F := F) i arg1 harg1 arg2 harg2 arg3 harg3 arg4 harg4 arg5 harg5 arg6 harg6 arg7 harg7 arg8 harg8 arg9 harg9 arg10 harg10 =
      rest i arg2 arg3 arg4 arg5 arg7 harg7 arg8 arg9 arg10 harg10 := by
  unfold cc0_w3_linear k0_part177 k0_part49
  dsimp only
  rw [dif_neg (show ¬ (Scalar.cmpi .ne (Scalar.extui (Scalar.cmpi .eq (BitVec.ofNat 32 (i 0).val) 0#32) : BitVec 32) 0#32 = 1#1) from hi)]
  sl_kernel_rfl

/-- At the first grid point it is the prologue, then the contraction. -/
theorem body_first (hi : firstWord i = 1#1) :
    cc0_w3_linear (F := F) i arg1 harg1 arg2 harg2 arg3 harg3 arg4 harg4 arg5 harg5 arg6 harg6 arg7 harg7 arg8 harg8 arg9 harg9 arg10 harg10 =
      (prologue arg1 arg6 arg8 harg8 arg9 >>= fun _ => rest i arg2 arg3 arg4 arg5 arg7 harg7 arg8 arg9 arg10 harg10) := by
  unfold cc0_w3_linear k0_part177 k0_part49
  dsimp only
  rw [dif_pos (show Scalar.cmpi .ne (Scalar.extui (Scalar.cmpi .eq (BitVec.ofNat 32 (i 0).val) 0#32) : BitVec 32) 0#32 = 1#1 from hi)]
  sl_kernel_rfl

end

end Cert.KernelIdeal
-- ==== Proof.Owned.lean ====
module

public import Idealize.ShloMosaic.Lib.VecWindow
public import Idealize.ShloMosaic.Lib.Writes
public import Idealize.ShloMosaic.Lib.Tactic

/-! # Loads and stores through an owned memref

The two step rules a straight-line body needs, at `owns`: a load of a window reads that window of the
contents, and a store of a window puts it there. -/

@[expose] public section

noncomputable section

namespace Cert.Owned

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of a window of an owned memref reads the window of its contents. -/
theorem wp_load_owned {cs : CoreSpace} {m : Memref sig c.2.kind cs s e} {off size : Fin s.rank → ℕ} {inb : ∀ a, off a + size a ≤ s.size a}
    {hl : m.view.LoadsAt (Rect.unit off size inb).toLoadRect}
    {k : ((Rect.unit off size inb).shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  iintro H HK
  unfold owns
  icases H with ⟨%f, %hf, H⟩
  have hS : m.view.setOn (Rect.unit off size inb).toLoadRect.set ⊆ m.view.set := m.view.setOn_subset_set _
  iapply (wp_load (Q := Q) 𝒱 c bd E hS) $$ H; iintro H
  rw [View.readAt_unit m.view f inb rfl inb, hf]
  iapply HK
  iexists f
  isplitr
  · ipureintro; exact hf
  iexact H

/-- A store of a window of an owned memref puts the window there. -/
theorem wp_store_owned {cs : CoreSpace} {m : Memref sig c.2.kind cs s e} {off size : Fin s.rank → ℕ} {inb : ∀ a, off a + size a ≤ s.size a}
    {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} {X : s.Idx → Val e} :
    (owns c m fullShare X : sProp (MT nD τ sig Ix Val Name U Lvl))
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  iintro H HK
  unfold owns
  icases H with ⟨%f, %hf, H⟩
  have hS : (m.access (Rect.unit off size inb)).set ⊆ m.view.set := m.setOn_access_subset _ _
  iapply (wp_store_writes₀ (Q := Q) 𝒱 c bd E hS) $$ H; iintro H
  iapply HK
  iexists _
  isplitr
  rotate_left
  · iexact H
  ipureintro
  rw [View.read_writes_cons_put m.view f inb w [] rfl]
  subst hf; rfl

end Cert.Owned

end
-- ==== Proof.Steps.lean ====
module

public import proofs.«01_k».proof.Proof.Body
public import proofs.«01_k».proof.Proof.Owned
public import proofs.«01_k».proof.Proof.Gen.KernelIdeal.Frame

/-! # What each kind of block does

Each program of `Body.lean`, run with its buffers owned: which buffers it leaves as they were, what it
writes, and the value it hands on. -/

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Owned

variable {F : FTy → Type} [FloatOps F]
variable [Facts]
open Facts₀ Facts

local notation "𝕄" => MT nD τ sig Unit (Elt F) ℕ (UR sig nD τ) ℕ

/-! ## The values -/

/-- The accumulator after block `r`. -/
def blkVal (i : grid0.Coords) (X2 X3 X4 : Vec F S1072x512 .i8) (X8 : Vec F S96x8576 .bf16) (X9 : Vec F S67x9216 .i32)
    (X10 : Vec F S67x2x512 .bf16) (r : Nat) (h : r < 33) (acc : FVec F S96x512 .f32) : FVec F S96x512 .f32 :=
  addf acc (matmul dot_S96x256_S256x512_S96x512_1_0_0_1_n_n none (VecWindow.window X8 ![0, 256 * r] S96x256.size (inbX h))
    (weights (bitcast S8x512 32 (VecWindow.window X2 ![32 * r, 0] S32x512.size (inbP h) : Vec F S32x512 .i8) bitcasts_S32x512_w8_S8x512_w32)
      (bitcast S8x512 32 (VecWindow.window X3 ![32 * r, 0] S32x512.size (inbP h) : Vec F S32x512 .i8) bitcasts_S32x512_w8_S8x512_w32)
      (bitcast S8x512 32 (VecWindow.window X4 ![32 * r, 0] S32x512.size (inbP h) : Vec F S32x512 .i8) bitcasts_S32x512_w8_S8x512_w32)
      (zeros8 (VecWindow.window X9 (zoff i (2 * r)) S1x512.size (inbZ i (by omega)))
        (VecWindow.window X9 (zoff i (2 * r + 1)) S1x512.size (inbZ i (by omega))))
      (scale16 (VecWindow.window X10 ![2 * r, 0, 0] S1x2x512.size (inbS (by omega))))
      (scale16 (VecWindow.window X10 ![2 * r + 1, 0, 0] S1x2x512.size (inbS (by omega)))))
    (constant S96x512 .f32 0x00000000#32))

/-- The accumulator after the half block. -/
def halfVal (i : grid0.Coords) (X2 X3 X4 : Vec F S1072x512 .i8) (X8 : Vec F S96x8576 .bf16) (X9 : Vec F S67x9216 .i32)
    (X10 : Vec F S67x2x512 .bf16) (acc : FVec F S96x512 .f32) : FVec F S96x512 .f32 :=
  addf acc (matmul dot_S96x128_S128x512_S96x512_1_0_0_1_n_n none
    (VecWindow.window X8 ![0, 8448] S96x128.size inb_S96x8576_S96x128_0_8448)
    (weightsHalf (bitcast S4x512 32 (VecWindow.window X2 ![1056, 0] S16x512.size inb_S1072x512_S16x512_1056_0 : Vec F S16x512 .i8) bitcasts_S16x512_w8_S4x512_w32)
      (bitcast S4x512 32 (VecWindow.window X3 ![1056, 0] S16x512.size inb_S1072x512_S16x512_1056_0 : Vec F S16x512 .i8) bitcasts_S16x512_w8_S4x512_w32)
      (bitcast S4x512 32 (VecWindow.window X4 ![1056, 0] S16x512.size inb_S1072x512_S16x512_1056_0 : Vec F S16x512 .i8) bitcasts_S16x512_w8_S4x512_w32)
      (VecWindow.window X9 (zoff i 66) S1x512.size (inbZ i (by omega)))
      (scale16 (VecWindow.window X10 ![66, 0, 0] S1x2x512.size (inbS (by omega)))))
    (constant S96x512 .f32 0x00000000#32))

/-- The accumulator after `n` blocks from block `r` on. -/
def chainVal (i : grid0.Coords) (X2 X3 X4 : Vec F S1072x512 .i8) (X8 : Vec F S96x8576 .bf16) (X9 : Vec F S67x9216 .i32)
    (X10 : Vec F S67x2x512 .bf16) : (n r : Nat) → r + n ≤ 33 → FVec F S96x512 .f32 → FVec F S96x512 .f32
  | 0, _, _, acc => acc
  | n + 1, r, h, acc => chainVal i X2 X3 X4 X8 X9 X10 n (r + 1) (by omega) (blkVal i X2 X3 X4 X8 X9 X10 r (by omega) acc)

/-- The block of the result a grid point writes. -/
def outVal (i : grid0.Coords) (X2 X3 X4 : Vec F S1072x512 .i8) (X8 : Vec F S96x8576 .bf16) (X9 : Vec F S67x9216 .i32)
    (X10 : Vec F S67x2x512 .bf16) : Vec F S96x512 .bf16 :=
  truncf .bf16 (halfVal i X2 X3 X4 X8 X9 X10
    (chainVal i X2 X3 X4 X8 X9 X10 33 0 (by omega) (broadcast S96x512 (Scalar.ofBits .f32 0x00000000#32)))) bitsLt_bf16_f32

/-- The scratch after `n` permuted blocks from block `r` on. -/
def permVal (X1 : Vec F S96x8576 .bf16) : (n r : Nat) → r + n ≤ 33 → Vec F S96x8576 .bf16 → Vec F S96x8576 .bf16
  | 0, _, _, X8 => X8
  | n + 1, r, h, X8 => permVal X1 n (r + 1) (by omega)
      (VecWindow.put X8 ![0, 256 * r] S96x256.size (permuted256 (VecWindow.window X1 ![0, 256 * r] S96x256.size (inbX (by omega)) : Vec F S96x256 .bf16)))

/-- The whole permuted input. -/
def permAll (X1 X8 : Vec F S96x8576 .bf16) : Vec F S96x8576 .bf16 :=
  VecWindow.put (permVal X1 33 0 (by omega) X8) ![0, 8448] S96x128.size
    (permuted128 (VecWindow.window X1 ![0, 8448] S96x128.size inb_S96x8576_S96x128_0_8448 : Vec F S96x128 .bf16))

/-- The zero points after `n` fields from field `f` on. -/
def zeroVal (zp : IVec S67x909 32) : (n f : Nat) → f + n ≤ 9 → Vec F S67x9216 .i32 → Vec F S67x9216 .i32
  | 0, _, _, X9 => X9
  | n + 1, f, h, X9 => zeroVal zp n (f + 1) (by omega)
      (VecWindow.put X9 ![0, 909 * f] S67x909.size (shapeCast S67x909 (zeroField zp f) shapeCasts_S67x909_S67x909))

/-- All the zero points. -/
def zeroAll (X6 : Vec F S67x909 .i32) (X9 : Vec F S67x9216 .i32) : Vec F S67x9216 .i32 :=
  VecWindow.put (zeroVal (F := F) X6 9 0 (by omega) X9) ![0, 8181] S67x907.size
    (shapeCast S67x907 (extractStridedSlice S67x907 ![0, 0] (zeroField X6 9) slices_S67x909_o0_0_S67x907) shapeCasts_S67x907_S67x907)

/-! ## Whole windows -/

omit [FloatOps F] [Facts] in
/-- The window of the shape's own sizes is the contents. -/
theorem window_whole {s : Shape} {α : Type} {off : Fin s.rank → ℕ} {X : s.Idx → α} (inb : ∀ a, off a + s.size a ≤ s.size a) :
    VecWindow.window X off s.size inb = X := by
  funext y
  refine congrArg X (funext fun a => Fin.ext ?_)
  have := inb a
  simp [Rect.emb, Rect.unit]
  omega

omit [FloatOps F] [Facts] in
/-- Putting a window of the shape's own sizes puts the payload. -/
theorem put_whole {s : Shape} {α : Type} {off : Fin s.rank → ℕ} {X w : s.Idx → α} (inb : ∀ a, off a + s.size a ≤ s.size a) :
    VecWindow.put X off s.size w = w := by
  funext y
  have h : ∀ a, off a = 0 := fun a => by have := inb a; omega
  unfold VecWindow.put
  rw [dif_pos fun a => ⟨by rw [h a]; omega, by rw [h a]; have := (y a).isLt; omega⟩]
  refine congrArg w (funext fun a => Fin.ext ?_)
  simp [Rect.unitLocal, h a]

/-! ## The contraction -/

section Runs

variable (c : Dev nD) (i : grid0.Coords) (arg1 : Memref sig .tc .vmem S96x8576 .bf16) (arg2 arg3 arg4 : Memref sig .tc .vmem S1072x512 .i8)
  (arg5 : Memref sig .tc .vmem S67x512 .bf16) (arg6 : Memref sig .tc .vmem S67x909 .i32)
  (arg7 : Memref sig .tc .vmem S96x512 .bf16) (harg7 : arg7.IsWhole)
  (arg8 : Memref sig .tc .vmem S96x8576 .bf16) (harg8 : arg8.IsWhole) (arg9 : Memref sig .tc .vmem S67x9216 .i32)
  (arg10 : Memref sig .tc .vmem S67x2x512 .bf16) (harg10 : arg10.IsWhole)
  (X1 : Vec F S96x8576 .bf16) (X2 X3 X4 : Vec F S1072x512 .i8) (X5 : Vec F S67x512 .bf16) (X6 : Vec F S67x909 .i32)
  (X7 : Vec F S96x512 .bf16) (X8 : Vec F S96x8576 .bf16) (X9 : Vec F S67x9216 .i32) (X10 : Vec F S67x2x512 .bf16)

/-- The buffers the contraction reads. -/
def held : sProp 𝕄 :=
  iprop(owns (c : Thread nD τ) arg2 fullShare X2 ∗ owns (c : Thread nD τ) arg3 fullShare X3 ∗ owns (c : Thread nD τ) arg4 fullShare X4
    ∗ owns (c : Thread nD τ) arg8 fullShare X8 ∗ owns (c : Thread nD τ) arg9 fullShare X9 ∗ owns (c : Thread nD τ) arg10 fullShare X10)

/-- A program of the core, run to a postcondition. -/
abbrev runs {α : Type} (Q : α → sProp 𝕄) (p : Prog (TpuEff nD τ sig (Elt F) Λ₀ .tc) α) : sProp 𝕄 :=
  wp frame (wpE (defs₀ (F := F)) Variants.none (c : Thread nD τ) none) Set.univ p Q

/-- A block adds to the accumulator and leaves its buffers. -/
theorem blk_run {α : Type} (Q : α → sProp 𝕄) (r : Nat) (h : r < 33) (acc : FVec F S96x512 .f32) (κ : FVec F S96x512 .f32 → Prog (TpuEff nD τ sig (Elt F) Λ₀ .tc) α) :
    held c arg2 arg3 arg4 arg8 arg9 arg10 X2 X3 X4 X8 X9 X10
      ⊢ iprop((held c arg2 arg3 arg4 arg8 arg9 arg10 X2 X3 X4 X8 X9 X10 -∗ runs c Q (κ (blkVal i X2 X3 X4 X8 X9 X10 r h acc)))
        -∗ runs c Q (blk i arg2 arg3 arg4 arg8 arg9 arg10 r h acc >>= κ)) := by
  unfold held blk runs
  simp only [Prog.lift, Prog.bind_op, Prog.bind_ret]
  iintro ⟨H2, H3, H4, H8, H9, H10⟩ HK
  iapply (wp_load_owned Variants.none (c : Thread nD τ) none Set.univ) $$ H2; iintro H2
  iapply (wp_load_owned Variants.none (c : Thread nD τ) none Set.univ) $$ H3; iintro H3
  iapply (wp_load_owned Variants.none (c : Thread nD τ) none Set.univ) $$ H4; iintro H4
  iapply (wp_load_owned Variants.none (c : Thread nD τ) none Set.univ) $$ H9; iintro H9
  iapply (wp_load_owned Variants.none (c : Thread nD τ) none Set.univ) $$ H9; iintro H9
  iapply (wp_load_owned Variants.none (c : Thread nD τ) none Set.univ) $$ H10; iintro H10
  iapply (wp_load_owned Variants.none (c : Thread nD τ) none Set.univ) $$ H10; iintro H10
  iapply (wp_load_owned Variants.none (c : Thread nD τ) none Set.univ) $$ H8; iintro H8
  iapply HK
  isplitl [H2]; · iexact H2
  isplitl [H3]; · iexact H3
  isplitl [H4]; · iexact H4
  isplitl [H8]; · iexact H8
  isplitl [H9]; · iexact H9
  iexact H10

/-- The half block likewise. -/
theorem half_run {α : Type} (Q : α → sProp 𝕄) (acc : FVec F S96x512 .f32) (κ : FVec F S96x512 .f32 → Prog (TpuEff nD τ sig (Elt F) Λ₀ .tc) α) :
    held c arg2 arg3 arg4 arg8 arg9 arg10 X2 X3 X4 X8 X9 X10
      ⊢ iprop((held c arg2 arg3 arg4 arg8 arg9 arg10 X2 X3 X4 X8 X9 X10 -∗ runs c Q (κ (halfVal i X2 X3 X4 X8 X9 X10 acc)))
        -∗ runs c Q (half i arg2 arg3 arg4 arg8 arg9 arg10 acc >>= κ)) := by
  unfold held half runs
  simp only [Prog.lift, Prog.bind_op, Prog.bind_ret]
  iintro ⟨H2, H3, H4, H8, H9, H10⟩ HK
  iapply (wp_load_owned Variants.none (c : Thread nD τ) none Set.univ) $$ H2; iintro H2
  iapply (wp_load_owned Variants.none (c : Thread nD τ) none Set.univ) $$ H3; iintro H3
  iapply (wp_load_owned Variants.none (c : Thread nD τ) none Set.univ) $$ H4; iintro H4
  iapply (wp_load_owned Variants.none (c : Thread nD τ) none Set.univ) $$ H9; iintro H9
  iapply (wp_load_owned Variants.none (c : Thread nD τ) none Set.univ) $$ H10; iintro H10
  iapply (wp_load_owned Variants.none (c : Thread nD τ) none Set.univ) $$ H8; iintro H8
  iapply HK
  isplitl [H2]; · iexact H2
  isplitl [H3]; · iexact H3
  isplitl [H4]; · iexact H4
  isplitl [H8]; · iexact H8
  isplitl [H9]; · iexact H9
  iexact H10

/-- So does a run of blocks. -/
theorem chain_run {α : Type} (Q : α → sProp 𝕄) (κ : FVec F S96x512 .f32 → Prog (TpuEff nD τ sig (Elt F) Λ₀ .tc) α) : ∀ (n r : Nat) (h : r + n ≤ 33) (acc : FVec F S96x512 .f32),
    held c arg2 arg3 arg4 arg8 arg9 arg10 X2 X3 X4 X8 X9 X10
      ⊢ iprop((held c arg2 arg3 arg4 arg8 arg9 arg10 X2 X3 X4 X8 X9 X10 -∗ runs c Q (κ (chainVal i X2 X3 X4 X8 X9 X10 n r h acc)))
        -∗ runs c Q (chain i arg2 arg3 arg4 arg8 arg9 arg10 n r h acc >>= κ))
  | 0, r, h, acc => by
    rw [show (chain i arg2 arg3 arg4 arg8 arg9 arg10 0 r h acc >>= κ) = κ acc from rfl]
    iintro H HK
    iapply HK
    iexact H
  | n + 1, r, h, acc => by
    rw [show (chain i arg2 arg3 arg4 arg8 arg9 arg10 (n + 1) r h acc >>= κ)
      = (blk i arg2 arg3 arg4 arg8 arg9 arg10 r (by omega) acc >>= fun a => chain i arg2 arg3 arg4 arg8 arg9 arg10 n (r + 1) (by omega) a >>= κ) from Prog.bind_assoc _ _ _]
    iintro H HK
    iapply (blk_run c i arg2 arg3 arg4 arg8 arg9 arg10 X2 X3 X4 X8 X9 X10 Q r _ acc (fun a => chain i arg2 arg3 arg4 arg8 arg9 arg10 n (r + 1) _ a >>= κ)) $$ H; iintro H
    iapply (chain_run Q κ n (r + 1) _ (blkVal i X2 X3 X4 X8 X9 X10 r _ acc)) $$ H
    iexact HK

/-- A grid point after its scratch is there: the scales are stored as words, the blocks are run and the result's block is stored. -/
theorem rest_run (Q : PUnit → sProp 𝕄) :
    iprop(held c arg2 arg3 arg4 arg8 arg9 arg10 X2 X3 X4 X8 X9 X10 ∗ owns (c : Thread nD τ) arg5 fullShare X5 ∗ owns (c : Thread nD τ) arg7 fullShare X7)
      ⊢ iprop((held c arg2 arg3 arg4 arg8 arg9 arg10 X2 X3 X4 X8 X9 (scaleWords X5) ∗ owns (c : Thread nD τ) arg5 fullShare X5
          ∗ owns (c : Thread nD τ) arg7 fullShare (outVal i X2 X3 X4 X8 X9 (scaleWords X5)) -∗ Q ⟨⟩)
        -∗ runs c Q (rest i arg2 arg3 arg4 arg5 arg7 harg7 arg8 arg9 arg10 harg10)) := by
  unfold rest runs
  simp only [Prog.lift, Prog.bind_op, Prog.bind_ret]
  iintro ⟨HH, H5, H7⟩ HK
  unfold held
  icases HH with ⟨H2, H3, H4, H8, H9, H10⟩
  iapply (wp_load_owned Variants.none (c : Thread nD τ) none Set.univ) $$ H5; iintro H5
  iapply (wp_load_owned Variants.none (c : Thread nD τ) none Set.univ) $$ H10; iintro H10
  iapply (wp_store_owned Variants.none (c : Thread nD τ) none Set.univ) $$ H10; iintro H10
  rw [put_whole inb_S67x2x512_S67x2x512_0_0_0, window_whole inb_S67x512_S67x512_0_0]
  iapply (chain_run c i arg2 arg3 arg4 arg8 arg9 arg10 X2 X3 X4 X8 X9 (scaleWords X5) Q (fun acc => half i arg2 arg3 arg4 arg8 arg9 arg10 acc >>= _) 33 0 _ (broadcast S96x512 (Scalar.ofBits .f32 0x00000000#32))) $$ [H2 H3 H4 H8 H9 H10]
  · unfold held
    isplitl [H2]; · iexact H2
    isplitl [H3]; · iexact H3
    isplitl [H4]; · iexact H4
    isplitl [H8]; · iexact H8
    isplitl [H9]; · iexact H9
    iexact H10
  iintro HH
  iapply (half_run c i arg2 arg3 arg4 arg8 arg9 arg10 X2 X3 X4 X8 X9 (scaleWords X5) Q) $$ HH; iintro HH
  iapply (wp_load_owned Variants.none (c : Thread nD τ) none Set.univ) $$ H7; iintro H7
  iapply (wp_store_owned Variants.none (c : Thread nD τ) none Set.univ) $$ H7; iintro H7
  rw [put_whole inb_S96x512_S96x512_0_0, wp_pure]
  imodintro
  unfold held
  iapply HK
  isplitl [HH]; · iexact HH
  isplitl [H5]; · iexact H5
  iexact H7

/-! ## The first grid point's scratch -/

/-- A permuted block is put into the scratch. -/
theorem permBlk_run {α : Type} (Q : α → sProp 𝕄) (r : Nat) (h : r < 33) (κ : PUnit → Prog (TpuEff nD τ sig (Elt F) Λ₀ .tc) α) :
    iprop(owns (c : Thread nD τ) arg1 fullShare X1 ∗ owns (c : Thread nD τ) arg8 fullShare X8)
      ⊢ iprop((owns (c : Thread nD τ) arg1 fullShare X1 ∗ owns (c : Thread nD τ) arg8 fullShare (permVal X1 1 r (by omega) X8) -∗ runs c Q (κ ⟨⟩))
        -∗ runs c Q (permBlk arg1 arg8 harg8 r h >>= κ)) := by
  unfold permBlk runs
  simp only [Prog.lift, Prog.bind_op, Prog.bind_ret]
  iintro ⟨H1, H8⟩ HK
  iapply (wp_load_owned Variants.none (c : Thread nD τ) none Set.univ) $$ H1; iintro H1
  iapply (wp_load_owned Variants.none (c : Thread nD τ) none Set.univ) $$ H8; iintro H8
  iapply (wp_store_owned Variants.none (c : Thread nD τ) none Set.univ) $$ H8; iintro H8
  iapply HK
  isplitl [H1]; · iexact H1
  iexact H8

theorem permChain_run {α : Type} (Q : α → sProp 𝕄) (κ : PUnit → Prog (TpuEff nD τ sig (Elt F) Λ₀ .tc) α) : ∀ (n r : Nat) (h : r + n ≤ 33) (X8 : Vec F S96x8576 .bf16),
    iprop(owns (c : Thread nD τ) arg1 fullShare X1 ∗ owns (c : Thread nD τ) arg8 fullShare X8)
      ⊢ iprop((owns (c : Thread nD τ) arg1 fullShare X1 ∗ owns (c : Thread nD τ) arg8 fullShare (permVal X1 n r h X8) -∗ runs c Q (κ ⟨⟩))
        -∗ runs c Q (permChain arg1 arg8 harg8 n r h >>= κ))
  | 0, r, h, X8 => by
    rw [show (permChain arg1 arg8 harg8 0 r h >>= κ : Prog (TpuEff nD τ sig (Elt F) Λ₀ .tc) α) = κ ⟨⟩ from rfl]
    iintro H HK
    iapply HK
    iexact H
  | n + 1, r, h, X8 => by
    rw [show (permChain arg1 arg8 harg8 (n + 1) r h >>= κ : Prog (TpuEff nD τ sig (Elt F) Λ₀ .tc) α)
      = (permBlk arg1 arg8 harg8 r (by omega) >>= fun _ => permChain arg1 arg8 harg8 n (r + 1) (by omega) >>= κ) from Prog.bind_assoc _ _ _]
    iintro H HK
    iapply (permBlk_run c arg1 arg8 harg8 X1 X8 Q r _ (fun _ => permChain arg1 arg8 harg8 n (r + 1) _ >>= κ)) $$ H; iintro H
    iapply (permChain_run Q κ n (r + 1) _ (permVal X1 1 r _ X8)) $$ H
    iexact HK

/-- A field of the zero points is put into its scratch. -/
theorem zeroBlk_run {α : Type} (Q : α → sProp 𝕄) (zp : IVec S67x909 32) (f : Nat) (h : f < 9) (κ : PUnit → Prog (TpuEff nD τ sig (Elt F) Λ₀ .tc) α) :
    owns (c : Thread nD τ) arg9 fullShare X9
      ⊢ iprop((owns (c : Thread nD τ) arg9 fullShare (zeroVal (F := F) zp 1 f (by omega) X9) -∗ runs c Q (κ ⟨⟩))
        -∗ runs c Q (zeroBlk arg9 zp f h >>= κ)) := by
  unfold zeroBlk runs
  simp only [Prog.lift, Prog.bind_op, Prog.bind_ret]
  iintro H9 HK
  iapply (wp_load_owned Variants.none (c : Thread nD τ) none Set.univ) $$ H9; iintro H9
  iapply (wp_store_owned Variants.none (c : Thread nD τ) none Set.univ) $$ H9; iintro H9
  iapply HK
  iexact H9

theorem zeroChain_run {α : Type} (Q : α → sProp 𝕄) (zp : IVec S67x909 32) (κ : PUnit → Prog (TpuEff nD τ sig (Elt F) Λ₀ .tc) α) : ∀ (n f : Nat) (h : f + n ≤ 9) (X9 : Vec F S67x9216 .i32),
    owns (c : Thread nD τ) arg9 fullShare X9
      ⊢ iprop((owns (c : Thread nD τ) arg9 fullShare (zeroVal (F := F) zp n f h X9) -∗ runs c Q (κ ⟨⟩))
        -∗ runs c Q (zeroChain arg9 zp n f h >>= κ))
  | 0, f, h, X9 => by
    rw [show (zeroChain arg9 zp 0 f h >>= κ : Prog (TpuEff nD τ sig (Elt F) Λ₀ .tc) α) = κ ⟨⟩ from rfl]
    iintro H HK
    iapply HK
    iexact H
  | n + 1, f, h, X9 => by
    rw [show (zeroChain arg9 zp (n + 1) f h >>= κ : Prog (TpuEff nD τ sig (Elt F) Λ₀ .tc) α)
      = (zeroBlk arg9 zp f (by omega) >>= fun _ => zeroChain arg9 zp n (f + 1) (by omega) >>= κ) from Prog.bind_assoc _ _ _]
    iintro H HK
    iapply (zeroBlk_run c arg9 X9 Q zp f _ (fun _ => zeroChain arg9 zp n (f + 1) _ >>= κ)) $$ H; iintro H
    iapply (zeroChain_run Q zp κ n (f + 1) _ (zeroVal (F := F) zp 1 f _ X9)) $$ H
    iexact HK

/-- What the first grid point does before its contraction: both scratches are filled. -/
theorem prologue_run {α : Type} (Q : α → sProp 𝕄) (κ : PUnit → Prog (TpuEff nD τ sig (Elt F) Λ₀ .tc) α) :
    iprop(owns (c : Thread nD τ) arg1 fullShare X1 ∗ owns (c : Thread nD τ) arg6 fullShare X6
        ∗ owns (c : Thread nD τ) arg8 fullShare X8 ∗ owns (c : Thread nD τ) arg9 fullShare X9)
      ⊢ iprop((owns (c : Thread nD τ) arg1 fullShare X1 ∗ owns (c : Thread nD τ) arg6 fullShare X6
          ∗ owns (c : Thread nD τ) arg8 fullShare (permAll X1 X8) ∗ owns (c : Thread nD τ) arg9 fullShare (zeroAll X6 X9) -∗ runs c Q (κ ⟨⟩))
        -∗ runs c Q (prologue arg1 arg6 arg8 harg8 arg9 >>= κ)) := by
  unfold prologue
  simp only [Prog.bind_assoc]
  iintro ⟨H1, H6, H8, H9⟩ HK
  iapply (permChain_run c arg1 arg8 harg8 X1 Q _ 33 0 _ X8) $$ [H1 H8]
  · isplitl [H1]; · iexact H1
    iexact H8
  iintro ⟨H1, H8⟩
  unfold permHalf
  simp only [Prog.lift, Prog.bind_op, Prog.bind_ret]
  iapply (wp_load_owned Variants.none (c : Thread nD τ) none Set.univ) $$ H1; iintro H1
  iapply (wp_load_owned Variants.none (c : Thread nD τ) none Set.univ) $$ H8; iintro H8
  iapply (wp_store_owned Variants.none (c : Thread nD τ) none Set.univ) $$ H8; iintro H8
  iapply (wp_load_owned Variants.none (c : Thread nD τ) none Set.univ) $$ H6; iintro H6
  rw [window_whole inb_S67x909_S67x909_0_0]
  iapply (zeroChain_run c arg9 Q X6 _ 9 0 _ X9) $$ H9; iintro H9
  unfold zeroLast
  simp only [Prog.lift, Prog.bind_op, Prog.bind_ret]
  iapply (wp_load_owned Variants.none (c : Thread nD τ) none Set.univ) $$ H9; iintro H9
  iapply (wp_store_owned Variants.none (c : Thread nD τ) none Set.univ) $$ H9; iintro H9
  iapply HK
  isplitl [H1]; · iexact H1
  isplitl [H6]; · iexact H6
  isplitl [H8]; · iexact H8
  iexact H9

end Runs

end Cert.KernelIdeal

end
-- ==== Proof.Frames.lean ====
module

public import proofs.«01_k».proof.Proof.Steps

/-! # The kernel runs and leaves its arguments

The body at a grid point, from its buffers at any contents to the contents it leaves them with; from it
the frame run, in which nothing is said of what the result's blocks hold. -/

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Owned

variable {F : FTy → Type} [FloatOps F]

local notation "𝕄" => MT nD τ sig Unit (Elt F) ℕ (UR sig nD τ) ℕ

/-! ## The body -/

/-- The permuted input after a point's body: filled at the first point. -/
def xpAt (i : grid0.Coords) (X1 X8 : Vec F S96x8576 .bf16) : Vec F S96x8576 .bf16 :=
  if (i 0).val = 0 then permAll X1 X8 else X8

/-- The zero points after a point's body: filled at the first point. -/
def zpAt (i : grid0.Coords) (X6 : Vec F S67x909 .i32) (X9 : Vec F S67x9216 .i32) : Vec F S67x9216 .i32 :=
  if (i 0).val = 0 then zeroAll X6 X9 else X9

theorem body_run (c : Dev nD) (i : grid0.Coords)
    (arg1 : Memref sig .tc .vmem S96x8576 .bf16) (harg1 : arg1.IsWhole)
    (arg2 : Memref sig .tc .vmem S1072x512 .i8) (harg2 : arg2.IsWhole)
    (arg3 : Memref sig .tc .vmem S1072x512 .i8) (harg3 : arg3.IsWhole)
    (arg4 : Memref sig .tc .vmem S1072x512 .i8) (harg4 : arg4.IsWhole)
    (arg5 : Memref sig .tc .vmem S67x512 .bf16) (harg5 : arg5.IsWhole)
    (arg6 : Memref sig .tc .vmem S67x909 .i32) (harg6 : arg6.IsWhole)
    (arg7 : Memref sig .tc .vmem S96x512 .bf16) (harg7 : arg7.IsWhole)
    (arg8 : Memref sig .tc .vmem S96x8576 .bf16) (harg8 : arg8.IsWhole)
    (arg9 : Memref sig .tc .vmem S67x9216 .i32) (harg9 : arg9.IsWhole)
    (arg10 : Memref sig .tc .vmem S67x2x512 .bf16) (harg10 : arg10.IsWhole)
    (X1 : Vec F S96x8576 .bf16) (X2 X3 X4 : Vec F S1072x512 .i8) (X5 : Vec F S67x512 .bf16) (X6 : Vec F S67x909 .i32)
    (X7 : Vec F S96x512 .bf16) (X8 : Vec F S96x8576 .bf16) (X9 : Vec F S67x9216 .i32) (X10 : Vec F S67x2x512 .bf16)
    (Q : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8 ∗ owns (c : Thread nD τ) arg9 fullShare X9
        ∗ owns (c : Thread nD τ) arg10 fullShare X10)
      ⊢ iprop((owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare (outVal i X2 X3 X4 (xpAt i X1 X8) (zpAt i X6 X9) (scaleWords X5))
        ∗ owns (c : Thread nD τ) arg8 fullShare (xpAt i X1 X8) ∗ owns (c : Thread nD τ) arg9 fullShare (zpAt i X6 X9)
        ∗ owns (c : Thread nD τ) arg10 fullShare (scaleWords X5) -∗ Q ⟨⟩)
        -∗ runs c Q (cc0_w3_linear i arg1 harg1 arg2 harg2 arg3 harg3 arg4 harg4 arg5 harg5 arg6 harg6 arg7 harg7 arg8 harg8 arg9 harg9 arg10 harg10)) := by
  by_cases hi : firstWord i = 1#1
  · rw [body_first i arg1 harg1 arg2 harg2 arg3 harg3 arg4 harg4 arg5 harg5 arg6 harg6 arg7 harg7 arg8 harg8 arg9 harg9 arg10 harg10 hi]
    have h0 := (firstWord_iff i).mp hi
    rw [show xpAt i X1 X8 = permAll X1 X8 from if_pos h0, show zpAt i X6 X9 = zeroAll X6 X9 from if_pos h0]
    iintro ⟨H1, H2, H3, H4, H5, H6, H7, H8, H9, H10⟩ HK
    iapply (prologue_run c arg1 arg6 arg8 harg8 arg9 X1 X6 X8 X9 Q) $$ [H1 H6 H8 H9]
    · isplitl [H1]; · iexact H1
      isplitl [H6]; · iexact H6
      isplitl [H8]; · iexact H8
      iexact H9
    iintro ⟨H1, H6, H8, H9⟩
    iapply (rest_run c i arg2 arg3 arg4 arg5 arg7 harg7 arg8 arg9 arg10 harg10 X2 X3 X4 X5 X7 (permAll X1 X8) (zeroAll X6 X9) X10 Q) $$ [H2 H3 H4 H5 H7 H8 H9 H10]
    · unfold held
      isplitl [H2 H3 H4 H8 H9 H10]
      · isplitl [H2]; · iexact H2
        isplitl [H3]; · iexact H3
        isplitl [H4]; · iexact H4
        isplitl [H8]; · iexact H8
        isplitl [H9]; · iexact H9
        iexact H10
      isplitl [H5]; · iexact H5
      iexact H7
    unfold held
    iintro ⟨⟨H2, H3, H4, H8, H9, H10⟩, H5, H7⟩
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [body_rest i arg1 harg1 arg2 harg2 arg3 harg3 arg4 harg4 arg5 harg5 arg6 harg6 arg7 harg7 arg8 harg8 arg9 harg9 arg10 harg10 hi]
    have h0 : ¬ (i 0).val = 0 := fun h => hi ((firstWord_iff i).mpr h)
    rw [show xpAt i X1 X8 = X8 from if_neg h0, show zpAt i X6 X9 = X9 from if_neg h0]
    iintro ⟨H1, H2, H3, H4, H5, H6, H7, H8, H9, H10⟩ HK
    iapply (rest_run c i arg2 arg3 arg4 arg5 arg7 harg7 arg8 arg9 arg10 harg10 X2 X3 X4 X5 X7 X8 X9 X10 Q) $$ [H2 H3 H4 H5 H7 H8 H9 H10]
    · unfold held
      isplitl [H2 H3 H4 H8 H9 H10]
      · isplitl [H2]; · iexact H2
        isplitl [H3]; · iexact H3
        isplitl [H4]; · iexact H4
        isplitl [H8]; · iexact H8
        isplitl [H9]; · iexact H9
        iexact H10
      isplitl [H5]; · iexact H5
      iexact H7
    unfold held
    iintro ⟨⟨H2, H3, H4, H8, H9, H10⟩, H5, H7⟩
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-! ## The frame run -/

variable (m : (ℓ : Loc nD τ sig) → Buf (Elt F) ℓ) (ρ : Dev nD → PrngReg)

/-- Nothing is said of what a staging buffer holds. -/
def forgets : Fin 7 → Bool := fun _ => true

/-- The proof data of the frame run. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem bodyF (c : Dev nD) :
    BodyObligationLoose (datsF (F := F) m 0 c) (defs₀ (F := F)) Variants.none () Set.univ forgets := fun t => by
  rw [bigSep_W0, bigSep_W0]
  simp only [forgets]
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl]
  unfold Pipeline.ΦA
  rw [scopedRest0_eq]
  iintro ⟨⟨⟨⟨%f8, H8⟩, ⟨%f9, H9⟩, ⟨%f10, H10⟩⟩, Hg⟩, Ho, ⟨%X1, H1⟩, ⟨%X2, H2⟩, ⟨%X3, H3⟩, ⟨%X4, H4⟩, ⟨%X5, H5⟩, ⟨%X6, H6⟩, ⟨%X7, H7⟩⟩
  iapply (body_run c (grid0.coords t) _ _ _ _ _ _ _ _ _ _ _ _ _ _ (Memref.whole cc0_scratch0) (Memref.isWhole_whole _) (Memref.whole cc0_scratch1) (Memref.isWhole_whole _)
    (Memref.whole cc0_scratch2) (Memref.isWhole_whole _) X1 X2 X3 X4 X5 X6 X7 f8 f9 f10 _) $$ [H1 H2 H3 H4 H5 H6 H7 H8 H9 H10]
  · simp only [owns_whole_eq]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists f8; isplitr; · ipureintro; rfl
      iexact H8
    isplitl [H9]
    · iexists f9; isplitr; · ipureintro; rfl
      iexact H9
    iexists f10; isplitr; · ipureintro; rfl
    iexact H10
  simp only [owns_whole_eq]
  iintro ⟨H1, H2, H3, H4, H5, H6, H7, ⟨%g8, -, H8⟩, ⟨%g9, -, H9⟩, ⟨%g10, -, H10⟩⟩
  isplitl [H8 H9 H10 Hg]
  · isplitl [H8 H9 H10]
    · isplitl [H8]; · iexists g8; iexact H8
      isplitl [H9]; · iexists g9; iexact H9
      iexists g10; iexact H10
    iexact Hg
  isplitl [Ho]; · iexact Ho
  isplitl [H1]; · iexists X1; iexact H1
  isplitl [H2]; · iexists X2; iexact H2
  isplitl [H3]; · iexists X3; iexact H3
  isplitl [H4]; · iexists X4; iexact H4
  isplitl [H5]; · iexists X5; iexact H5
  isplitl [H6]; · iexists X6; iexact H6
  iexists _; iexact H7

-- the implicit arguments are found by unifying the conclusion with this statement, which takes unfolding plain
-- definitions in a metavariable's type
set_option backward.isDefEq.respectTransparency.types false in
/-- Every weakly fair execution terminates with every argument at its launch contents and every counter at zero. -/
theorem run_frame :
    θ_run defs (onTc (τ := τ) (main (F := F))) (s₀ m ρ)
      (fun r => Pipeline.RDat.FramePost (cfgs 0) (fun c => (datsF m 0 c).toRForget forgets) (V m) r ∧ r.2.sem = fun _ => 0) :=
  Pipeline.θ_run_frame_track_forget (Q' := _) cfgs (datsF m) (0 : Fin 1) launch0 defs₀ Variants.none forgets m ρ main
    (hbody := fun c => bodyF m c) (hshare := fun c => (datsF m 0 c).share_full fun _ => rfl)
    (howed := fun _ _ => rfl) (V := V m) (hmain := hmain m Variants.none) (hA := fun _ _ => rfl)
    (hin := fun _ => .rfl) (hout := fun _ => .rfl) (hQ' := fun _ h => h)

/-- The frame and quiescence, as the claim states them. -/
theorem frame_quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
      ⟨(h.1 c).2 main_arg0 (Pipeline.mem_restRefs_of main_arg0 (by decide) (by decide)) |>.trans (V_main_arg0 m c),
        (h.1.arr_in c 1 rfl).trans (V_main_arg1 m c), (h.1.arr_in c 2 rfl).trans (V_main_arg2 m c),
        (h.1.arr_in c 3 rfl).trans (V_main_arg3 m c), (h.1.arr_in c 4 rfl).trans (V_main_arg4 m c),
        (h.1.arr_in c 5 rfl).trans (V_main_arg5 m c)⟩, h.2⟩) (run_frame m ρ)

end Cert.KernelIdeal

end
-- ==== Proof.BodyBits.lean ====
module

public import proofs.«01_k».proof.Kernel
public import Idealize.ShloMosaic.Lib.Tactic

/-! # The bit-level kernel's body, by blocks

The printed body is one straight line: thirty-three blocks of the contraction that differ only in the
offsets they read, a half block, and at the first grid point the same number of permuted blocks of the
input. Here each kind of block is written once, as a program of its number, and the body is the chain of
them. `body_first` and `body_rest` say that the printed body is that chain. -/

@[expose] public section

set_option maxRecDepth 16384

noncomputable section

namespace Cert.Kernel

open Idealize.ShloMosaic Idealize.SL.Sem

variable {F : FTy → Type} [BitOps F]
variable [Facts]
open Facts₀ Facts

/-! ## The values of a block -/

/-- Plane bits to fields: which field of the nibbles of the three plane words, each nibble eight plus its code. -/
def fields8 (a b c : IVec S8x512 32) : Fin 4 → IVec S8x512 32 :=
  let v38 := andi (xori (shrui a (broadcast S8x512 1#32)) b) (broadcast S8x512 1431655765#32)
  let v39 := xori b v38
  let v42 := xori a (shli v38 (broadcast S8x512 1#32))
  let v44 := ori c (broadcast S8x512 2863311530#32)
  let v48 := ori (shrui c (broadcast S8x512 1#32)) (broadcast S8x512 2863311530#32)
  let v53 := andi (xori (shrui v42 (broadcast S8x512 2#32)) v44) (broadcast S8x512 858993459#32)
  let v58 := andi (xori (shrui v39 (broadcast S8x512 2#32)) v48) (broadcast S8x512 858993459#32)
  ![xori v42 (shli v53 (broadcast S8x512 2#32)), xori v39 (shli v58 (broadcast S8x512 2#32)), xori v44 v53, xori v48 v58]

/-- A field's words, less the zero points, as sixty-four rows of signed codes. -/
def codes64 (v z : IVec S8x512 32) : FVec F S64x512 .bf16 :=
  let w := xori (subi v z) (broadcast S8x512 2290649224#32)
  let w := shapeCast S8x1x512 w shapeCasts_S8x512_S8x1x512
  let w := shapeCast S8x1x512 w shapeCasts_S8x1x512_S8x1x512
  let w := broadcastTo S8x8x512 w broadcasts_S8x1x512_S8x8x512
  let w := shapeCast S64x512 w shapeCasts_S8x8x512_S64x512
  let s := subi (broadcast S64x512 28#32) (muli (broadcast S64x512 4#32)
    (andi (iota .tc S64x512 32 [0] iota_S64x512_d0_w32) (broadcast S64x512 7#32)))
  sitofp .bf16 (trunci 4 (shrsi (shli w s) (broadcast S64x512 28#32)) natLt_4_32)

/-- The eight-row zero points of a block: the first four rows of one group, the last four of the next. -/
def zeros8 (z0 z1 : IVec S1x512 32) : IVec S8x512 32 :=
  select (cmpi .slt (iota .tc S8x512 32 [0] iota_S8x512_d0_w32) (broadcast S8x512 4#32))
    (broadcastTo S8x512 (shapeCast S1x512 z0 shapeCasts_S1x512_S1x512) broadcasts_S1x512_S8x512)
    (broadcastTo S8x512 (shapeCast S1x512 z1 shapeCasts_S1x512_S1x512) broadcasts_S1x512_S8x512)

/-- Sixteen rows of one group's scales, from the word buffer's row. -/
def scale16 (raw : Vec F S1x512 .i32) : FVec F S16x512 .bf16 :=
  let v : FVec F S2x512 .bf16 := bitcastToFloat .bf16 (bitcast S2x512 16 raw bitcasts_S1x512_w32_S2x512_w16)
  let v := shapeCast S1x2x512 v shapeCasts_S2x512_S1x2x512
  let v := shapeCast S1x2x512 v shapeCasts_S1x2x512_S1x2x512
  shapeCast S16x512 (broadcastTo S8x2x512 v broadcasts_S1x2x512_S8x2x512) shapeCasts_S8x2x512_S16x512

/-- A block's dequantized weights. -/
def weights (a b c : IVec S8x512 32) (z : IVec S8x512 32) (s0 s1 : FVec F S16x512 .bf16) : FVec F S256x512 .bf16 :=
  let f := fields8 a b c
  let q0 : FVec F S64x512 .bf16 := codes64 (f 0) z
  let q1 : FVec F S64x512 .bf16 := codes64 (f 1) z
  let q2 : FVec F S64x512 .bf16 := codes64 (f 2) z
  let q3 : FVec F S64x512 .bf16 := codes64 (f 3) z
  concatenate S256x512 0 [
    ⟨S16x512, mulf (extractStridedSlice S16x512 ![0, 0] q0 slices_S64x512_o0_0_S16x512) s0⟩,
    ⟨S16x512, mulf (extractStridedSlice S16x512 ![16, 0] q0 slices_S64x512_o16_0_S16x512) s0⟩,
    ⟨S16x512, mulf (extractStridedSlice S16x512 ![32, 0] q0 slices_S64x512_o32_0_S16x512) s1⟩,
    ⟨S16x512, mulf (extractStridedSlice S16x512 ![48, 0] q0 slices_S64x512_o48_0_S16x512) s1⟩,
    ⟨S16x512, mulf (extractStridedSlice S16x512 ![0, 0] q1 slices_S64x512_o0_0_S16x512) s0⟩,
    ⟨S16x512, mulf (extractStridedSlice S16x512 ![16, 0] q1 slices_S64x512_o16_0_S16x512) s0⟩,
    ⟨S16x512, mulf (extractStridedSlice S16x512 ![32, 0] q1 slices_S64x512_o32_0_S16x512) s1⟩,
    ⟨S16x512, mulf (extractStridedSlice S16x512 ![48, 0] q1 slices_S64x512_o48_0_S16x512) s1⟩,
    ⟨S16x512, mulf (extractStridedSlice S16x512 ![0, 0] q2 slices_S64x512_o0_0_S16x512) s0⟩,
    ⟨S16x512, mulf (extractStridedSlice S16x512 ![16, 0] q2 slices_S64x512_o16_0_S16x512) s0⟩,
    ⟨S16x512, mulf (extractStridedSlice S16x512 ![32, 0] q2 slices_S64x512_o32_0_S16x512) s1⟩,
    ⟨S16x512, mulf (extractStridedSlice S16x512 ![48, 0] q2 slices_S64x512_o48_0_S16x512) s1⟩,
    ⟨S16x512, mulf (extractStridedSlice S16x512 ![0, 0] q3 slices_S64x512_o0_0_S16x512) s0⟩,
    ⟨S16x512, mulf (extractStridedSlice S16x512 ![16, 0] q3 slices_S64x512_o16_0_S16x512) s0⟩,
    ⟨S16x512, mulf (extractStridedSlice S16x512 ![32, 0] q3 slices_S64x512_o32_0_S16x512) s1⟩,
    ⟨S16x512, mulf (extractStridedSlice S16x512 ![48, 0] q3 slices_S64x512_o48_0_S16x512) s1⟩]
    concatenates_S16x512_S16x512_S16x512_S16x512_S16x512_S16x512_S16x512_S16x512_S16x512_S16x512_S16x512_S16x512_S16x512_S16x512_S16x512_S16x512_S256x512_d0

/-- `fields8` of the half block. -/
def fields4 (a b c : IVec S4x512 32) : Fin 4 → IVec S4x512 32 :=
  let v38 := andi (xori (shrui a (broadcast S4x512 1#32)) b) (broadcast S4x512 1431655765#32)
  let v39 := xori b v38
  let v42 := xori a (shli v38 (broadcast S4x512 1#32))
  let v44 := ori c (broadcast S4x512 2863311530#32)
  let v48 := ori (shrui c (broadcast S4x512 1#32)) (broadcast S4x512 2863311530#32)
  let v53 := andi (xori (shrui v42 (broadcast S4x512 2#32)) v44) (broadcast S4x512 858993459#32)
  let v58 := andi (xori (shrui v39 (broadcast S4x512 2#32)) v48) (broadcast S4x512 858993459#32)
  ![xori v42 (shli v53 (broadcast S4x512 2#32)), xori v39 (shli v58 (broadcast S4x512 2#32)), xori v44 v53, xori v48 v58]

/-- `codes64` of the half block. -/
def codes32 (v z : IVec S4x512 32) : FVec F S32x512 .bf16 :=
  let w := xori (subi v z) (broadcast S4x512 2290649224#32)
  let w := shapeCast S4x1x512 w shapeCasts_S4x512_S4x1x512
  let w := shapeCast S4x1x512 w shapeCasts_S4x1x512_S4x1x512
  let w := broadcastTo S4x8x512 w broadcasts_S4x1x512_S4x8x512
  let w := shapeCast S32x512 w shapeCasts_S4x8x512_S32x512
  let s := subi (broadcast S32x512 28#32) (muli (broadcast S32x512 4#32)
    (andi (iota .tc S32x512 32 [0] iota_S32x512_d0_w32) (broadcast S32x512 7#32)))
  sitofp .bf16 (trunci 4 (shrsi (shli w s) (broadcast S32x512 28#32)) natLt_4_32)

/-- `weights` of the half block. -/
def weightsHalf (a b c : IVec S4x512 32) (z : IVec S1x512 32) (s : FVec F S16x512 .bf16) : FVec F S128x512 .bf16 :=
  let f := fields4 a b c
  let z := broadcastTo S4x512 (shapeCast S1x512 z shapeCasts_S1x512_S1x512) broadcasts_S1x512_S4x512
  let q0 : FVec F S32x512 .bf16 := codes32 (f 0) z
  let q1 : FVec F S32x512 .bf16 := codes32 (f 1) z
  let q2 : FVec F S32x512 .bf16 := codes32 (f 2) z
  let q3 : FVec F S32x512 .bf16 := codes32 (f 3) z
  concatenate S128x512 0 [
    ⟨S16x512, mulf (extractStridedSlice S16x512 ![0, 0] q0 slices_S32x512_o0_0_S16x512) s⟩,
    ⟨S16x512, mulf (extractStridedSlice S16x512 ![16, 0] q0 slices_S32x512_o16_0_S16x512) s⟩,
    ⟨S16x512, mulf (extractStridedSlice S16x512 ![0, 0] q1 slices_S32x512_o0_0_S16x512) s⟩,
    ⟨S16x512, mulf (extractStridedSlice S16x512 ![16, 0] q1 slices_S32x512_o16_0_S16x512) s⟩,
    ⟨S16x512, mulf (extractStridedSlice S16x512 ![0, 0] q2 slices_S32x512_o0_0_S16x512) s⟩,
    ⟨S16x512, mulf (extractStridedSlice S16x512 ![16, 0] q2 slices_S32x512_o16_0_S16x512) s⟩,
    ⟨S16x512, mulf (extractStridedSlice S16x512 ![0, 0] q3 slices_S32x512_o0_0_S16x512) s⟩,
    ⟨S16x512, mulf (extractStridedSlice S16x512 ![16, 0] q3 slices_S32x512_o16_0_S16x512) s⟩]
    concatenates_S16x512_S16x512_S16x512_S16x512_S16x512_S16x512_S16x512_S16x512_S128x512_d0

/-! ## The offsets of block `r` -/

omit [Facts] in
theorem inbP {r : Nat} (h : r < 33) : ∀ a, (![32 * r, 0] : Fin 2 → Nat) a + S32x512.size a ≤ S1072x512.size a := by
  intro a
  rcases Fin.exists_fin_two.1 ⟨a, rfl⟩ with rfl | rfl
  · show 32 * r + 32 ≤ 1072; omega
  · show 0 + 512 ≤ 512; omega

/-- The corner of row `z` of the unpacked zero points at this grid point's columns. -/
def zoff (i : grid0.Coords) (z : Nat) : Fin 2 → Nat :=
  ![z, (Scalar.indexCast (Scalar.muli (BitVec.ofNat 32 (i 0).val) 512#32)).toNat]

omit [Facts] in
theorem zcol_eq (i : grid0.Coords) :
    (Scalar.indexCast (Scalar.muli (BitVec.ofNat 32 (i 0).val) 512#32)).toNat = 512 * (i 0).val := by
  have h : ∀ t : Fin 18, (Scalar.indexCast (Scalar.muli (BitVec.ofNat 32 t.val) 512#32)).toNat = 512 * t.val := by
    decide +kernel
  exact h (i 0)

omit [Facts] in
theorem inbZ (i : grid0.Coords) {z : Nat} (h : z < 67) : ∀ a, zoff i z a + S1x512.size a ≤ S67x9216.size a := by
  intro a
  rcases Fin.exists_fin_two.1 ⟨a, rfl⟩ with rfl | rfl
  · show z + 1 ≤ 67; omega
  · show (Scalar.indexCast (Scalar.muli (BitVec.ofNat 32 (i 0).val) 512#32)).toNat + 512 ≤ 9216
    rw [zcol_eq]
    have : (i 0).val < 18 := (i 0).isLt
    omega

omit [Facts] in
theorem inbS {z : Nat} (h : z < 67) : ∀ a, (![z, 0] : Fin 2 → Nat) a + S1x512.size a ≤ S67x512.size a := by
  intro a
  rcases Fin.exists_fin_two.1 ⟨a, rfl⟩ with rfl | rfl
  · show z + 1 ≤ 67; omega
  · show 0 + 512 ≤ 512; omega

omit [Facts] in
theorem inbX {r : Nat} (h : r < 33) : ∀ a, (![0, 256 * r] : Fin 2 → Nat) a + S96x256.size a ≤ S96x8576.size a := by
  intro a
  rcases Fin.exists_fin_two.1 ⟨a, rfl⟩ with rfl | rfl
  · show 0 + 96 ≤ 96; omega
  · show 256 * r + 256 ≤ 8576; omega

omit [Facts] in
theorem packedX {r : Nat} (h : r < 33) : (Rect.unit (s := S96x8576) ![0, 256 * r] S96x256.size (inbX h)).PackedRows (EltTy.packing .bf16) := by
  have e : ∀ r : Fin 33, (Rect.unit (s := S96x8576) ![0, 256 * r.val] S96x256.size (inbX r.isLt)).PackedRows (EltTy.packing .bf16) := by
    decide +kernel
  exact e ⟨r, h⟩

omit [Facts] in
theorem inbT {f : Nat} (h : f < 9) : ∀ a, (![0, 909 * f] : Fin 2 → Nat) a + S67x909.size a ≤ S67x9216.size a := by
  intro a
  rcases Fin.exists_fin_two.1 ⟨a, rfl⟩ with rfl | rfl
  · show 0 + 67 ≤ 67; omega
  · show 909 * f + 909 ≤ 9216; omega

/-! ## The blocks -/

/-- Block `r`: the accumulator plus this block's product. -/
def blk (i : grid0.Coords) (arg2 arg3 arg4 : Memref sig .tc .vmem S1072x512 .i8)
    (arg8 : Memref sig .tc .vmem S96x8576 .bf16) (arg9 : Memref sig .tc .vmem S67x9216 .i32)
    (arg10 : Memref sig .tc .vmem S67x512 .i32) (r : Nat) (h : r < 33) (acc : FVec F S96x512 .f32) :
    Prog (TpuEff nD τ sig (Elt F) Λ₀ .tc) (FVec F S96x512 .f32) := do
  let a : Vec F S32x512 .i8 ← Prog.lift (.load arg2 (Rect.unit (s := S1072x512) ![32 * r, 0] S32x512.size (inbP h)).toLoadRect (View.loadsAt_vmem h_S32x512))
  let b : Vec F S32x512 .i8 ← Prog.lift (.load arg3 (Rect.unit (s := S1072x512) ![32 * r, 0] S32x512.size (inbP h)).toLoadRect (View.loadsAt_vmem h_S32x512))
  let c : Vec F S32x512 .i8 ← Prog.lift (.load arg4 (Rect.unit (s := S1072x512) ![32 * r, 0] S32x512.size (inbP h)).toLoadRect (View.loadsAt_vmem h_S32x512))
  let z0 : Vec F S1x512 .i32 ← Prog.lift (.load arg9 (Rect.unit (s := S67x9216) (zoff i (2 * r)) S1x512.size (inbZ i (by omega))).toLoadRect (View.loadsAt_vmem h_S1x512))
  let z1 : Vec F S1x512 .i32 ← Prog.lift (.load arg9 (Rect.unit (s := S67x9216) (zoff i (2 * r + 1)) S1x512.size (inbZ i (by omega))).toLoadRect (View.loadsAt_vmem h_S1x512))
  let s0 : Vec F S1x512 .i32 ← Prog.lift (.load arg10 (Rect.unit (s := S67x512) ![2 * r, 0] S1x512.size (inbS (by omega))).toLoadRect (View.loadsAt_vmem h_S1x512))
  let s1 : Vec F S1x512 .i32 ← Prog.lift (.load arg10 (Rect.unit (s := S67x512) ![2 * r + 1, 0] S1x512.size (inbS (by omega))).toLoadRect (View.loadsAt_vmem h_S1x512))
  let x : Vec F S96x256 .bf16 ← Prog.lift (.load arg8 (Rect.unit (s := S96x8576) ![0, 256 * r] S96x256.size (inbX h)).toLoadRect (View.loadsAt_vmem h_S96x256))
  pure (addf acc (matmul dot_S96x256_S256x512_S96x512_1_0_0_1_n_n none x
    (weights (bitcast S8x512 32 a bitcasts_S32x512_w8_S8x512_w32) (bitcast S8x512 32 b bitcasts_S32x512_w8_S8x512_w32)
      (bitcast S8x512 32 c bitcasts_S32x512_w8_S8x512_w32) (zeros8 z0 z1) (scale16 s0) (scale16 s1))
    (constant S96x512 .f32 0x00000000#32)))

/-- The half block that ends the contraction. -/
def half (i : grid0.Coords) (arg2 arg3 arg4 : Memref sig .tc .vmem S1072x512 .i8)
    (arg8 : Memref sig .tc .vmem S96x8576 .bf16) (arg9 : Memref sig .tc .vmem S67x9216 .i32)
    (arg10 : Memref sig .tc .vmem S67x512 .i32) (acc : FVec F S96x512 .f32) :
    Prog (TpuEff nD τ sig (Elt F) Λ₀ .tc) (FVec F S96x512 .f32) := do
  let a : Vec F S16x512 .i8 ← Prog.lift (.load arg2 (Rect.unit (s := S1072x512) ![1056, 0] S16x512.size inb_S1072x512_S16x512_1056_0).toLoadRect (View.loadsAt_vmem h_S16x512))
  let b : Vec F S16x512 .i8 ← Prog.lift (.load arg3 (Rect.unit (s := S1072x512) ![1056, 0] S16x512.size inb_S1072x512_S16x512_1056_0).toLoadRect (View.loadsAt_vmem h_S16x512))
  let c : Vec F S16x512 .i8 ← Prog.lift (.load arg4 (Rect.unit (s := S1072x512) ![1056, 0] S16x512.size inb_S1072x512_S16x512_1056_0).toLoadRect (View.loadsAt_vmem h_S16x512))
  let z : Vec F S1x512 .i32 ← Prog.lift (.load arg9 (Rect.unit (s := S67x9216) (zoff i 66) S1x512.size (inbZ i (by omega))).toLoadRect (View.loadsAt_vmem h_S1x512))
  let s : Vec F S1x512 .i32 ← Prog.lift (.load arg10 (Rect.unit (s := S67x512) ![66, 0] S1x512.size (inbS (by omega))).toLoadRect (View.loadsAt_vmem h_S1x512))
  let x : Vec F S96x128 .bf16 ← Prog.lift (.load arg8 (Rect.unit (s := S96x8576) ![0, 8448] S96x128.size inb_S96x8576_S96x128_0_8448).toLoadRect (View.loadsAt_vmem h_S96x128))
  pure (addf acc (matmul dot_S96x128_S128x512_S96x512_1_0_0_1_n_n none x
    (weightsHalf (bitcast S4x512 32 a bitcasts_S16x512_w8_S4x512_w32) (bitcast S4x512 32 b bitcasts_S16x512_w8_S4x512_w32)
      (bitcast S4x512 32 c bitcasts_S16x512_w8_S4x512_w32) z (scale16 s))
    (constant S96x512 .f32 0x00000000#32)))

/-- `n` blocks from block `r` on. -/
def chain (i : grid0.Coords) (arg2 arg3 arg4 : Memref sig .tc .vmem S1072x512 .i8)
    (arg8 : Memref sig .tc .vmem S96x8576 .bf16) (arg9 : Memref sig .tc .vmem S67x9216 .i32)
    (arg10 : Memref sig .tc .vmem S67x512 .i32) : (n r : Nat) → r + n ≤ 33 → FVec F S96x512 .f32 →
    Prog (TpuEff nD τ sig (Elt F) Λ₀ .tc) (FVec F S96x512 .f32)
  | 0, _, _, acc => pure acc
  | n + 1, r, h, acc => do
    let acc ← blk i arg2 arg3 arg4 arg8 arg9 arg10 r (by omega) acc
    chain i arg2 arg3 arg4 arg8 arg9 arg10 n (r + 1) (by omega) acc

/-- The scales, stored as words of two equal halves. -/
def scaleWords (s : Vec F S67x512 .bf16) : Vec F S67x512 .i32 :=
  have v4 : FVec F S67x512 .f32 := extf .f32 s bitsLt_bf16_f32
  shapeCast S67x512 (packElementwise v4 v4) shapeCasts_S67x512_S67x512

/-- The body at every grid point: the scales' words, the contraction, the stored product. -/
def rest (i : grid0.Coords) (arg2 arg3 arg4 : Memref sig .tc .vmem S1072x512 .i8) (arg5 : Memref sig .tc .vmem S67x512 .bf16)
    (arg7 : Memref sig .tc .vmem S96x512 .bf16) (harg7 : arg7.IsWhole)
    (arg8 : Memref sig .tc .vmem S96x8576 .bf16) (arg9 : Memref sig .tc .vmem S67x9216 .i32)
    (arg10 : Memref sig .tc .vmem S67x512 .i32) (harg10 : arg10.IsWhole) :
    Prog (TpuEff nD τ sig (Elt F) Λ₀ .tc) PUnit := do
  let s : Vec F S67x512 .bf16 ← Prog.lift (.load arg5 (Rect.unit (s := S67x512) ![0, 0] S67x512.size inb_S67x512_S67x512_0_0).toLoadRect (View.loadsAt_vmem h_S67x512))
  let _ : Vec F S67x512 .i32 ← Prog.lift (.load arg10 (Rect.unit (s := S67x512) ![0, 0] S67x512.size inb_S67x512_S67x512_0_0).toLoadRect (View.loadsAt_vmem h_S67x512))
  Prog.lift (.store arg10 (Rect.unit (s := S67x512) ![0, 0] S67x512.size inb_S67x512_S67x512_0_0) (scaleWords s) Finset.univ (View.stores_vmem_bits_univ h_S67x512 rfl) (.inl rfl))
  let acc ← chain i arg2 arg3 arg4 arg8 arg9 arg10 33 0 (by omega) (broadcast S96x512 (Scalar.ofBits .f32 0x00000000#32))
  let acc ← half i arg2 arg3 arg4 arg8 arg9 arg10 acc
  let _ : Vec F S96x512 .bf16 ← Prog.lift (.load arg7 (Rect.unit (s := S96x512) ![0, 0] S96x512.size inb_S96x512_S96x512_0_0).toLoadRect (View.loadsAt_vmem h_S96x512))
  Prog.lift (.store arg7 (Rect.unit (s := S96x512) ![0, 0] S96x512.size inb_S96x512_S96x512_0_0) (truncf .bf16 acc bitsLt_bf16_f32) Finset.univ (View.stores_vmem h_S96x512 (harg7.storeExact_slice rfl _ packedbf16_S96x512_S96x512_0_0) (fun _ => rfl)) (.inl rfl))
  pure ⟨⟩

/-! ## The first grid point -/

/-- Where a permuted block's columns come from: column `j` from `4 * (j % 64) + j / 64`. -/
def permSrc256 : IVec S256x256 32 :=
  let d := iota .tc S256x256 32 [1] iota_S256x256_d1_w32
  let n : BitVec 32 := Scalar.select (Scalar.cmpi .eq 64#32 0#32) 1#32 64#32
  let m := remsi d (broadcast S256x256 n)
  let m := select (andi (xori (cmpi .slt m (broadcast S256x256 0#32))
      (broadcastTo S256x256 (broadcast S256x256 (Scalar.cmpi .slt n 0#32)) broadcasts_S256x256_S256x256))
      (cmpi .ne m (broadcast S256x256 0#32))) (addi m (broadcast S256x256 n)) m
  let q := divsi d (broadcast S256x256 64#32)
  let sg := subi (extui 32 (cmpi .sgt d (broadcast S256x256 0#32)) natLt_1_32) (extui 32 (cmpi .slt d (broadcast S256x256 0#32)) natLt_1_32)
  let sn : BitVec 32 := Scalar.subi (Scalar.extui (Scalar.cmpi .sgt 64#32 0#32)) (Scalar.extui (Scalar.cmpi .slt 64#32 0#32))
  let q := select (andi (cmpi .ne sg (broadcast S256x256 sn))
      (cmpi .ne (remsi d (broadcast S256x256 64#32)) (broadcast S256x256 0#32))) (subi q (broadcast S256x256 1#32)) q
  addi (muli (broadcast S256x256 4#32) m) q

/-- The permutation of a block's columns, as a matrix of zeros and ones. -/
def perm256 : FVec F S256x256 .bf16 :=
  truncf .bf16 (select (cmpi .eq (iota .tc S256x256 32 [0] iota_S256x256_d0_w32) permSrc256)
    (broadcast S256x256 (Scalar.ofBits .f32 0x3F800000#32 : F .f32)) (broadcast S256x256 (Scalar.ofBits .f32 0x00000000#32 : F .f32))) bitsLt_bf16_f32

/-- `permSrc256` of the half block: column `j` from `4 * (j % 32) + j / 32`. -/
def permSrc128 : IVec S128x128 32 :=
  let d := iota .tc S128x128 32 [1] iota_S128x128_d1_w32
  let n : BitVec 32 := Scalar.select (Scalar.cmpi .eq 32#32 0#32) 1#32 32#32
  let m := remsi d (broadcast S128x128 n)
  let m := select (andi (xori (cmpi .slt m (broadcast S128x128 0#32))
      (broadcastTo S128x128 (broadcast S128x128 (Scalar.cmpi .slt n 0#32)) broadcasts_S128x128_S128x128))
      (cmpi .ne m (broadcast S128x128 0#32))) (addi m (broadcast S128x128 n)) m
  let q := divsi d (broadcast S128x128 32#32)
  let sg := subi (extui 32 (cmpi .sgt d (broadcast S128x128 0#32)) natLt_1_32) (extui 32 (cmpi .slt d (broadcast S128x128 0#32)) natLt_1_32)
  let sn : BitVec 32 := Scalar.subi (Scalar.extui (Scalar.cmpi .sgt 32#32 0#32)) (Scalar.extui (Scalar.cmpi .slt 32#32 0#32))
  let q := select (andi (cmpi .ne sg (broadcast S128x128 sn))
      (cmpi .ne (remsi d (broadcast S128x128 32#32)) (broadcast S128x128 0#32))) (subi q (broadcast S128x128 1#32)) q
  addi (muli (broadcast S128x128 4#32) m) q

/-- `perm256` of the half block. -/
def perm128 : FVec F S128x128 .bf16 :=
  truncf .bf16 (select (cmpi .eq (iota .tc S128x128 32 [0] iota_S128x128_d0_w32) permSrc128)
    (broadcast S128x128 (Scalar.ofBits .f32 0x3F800000#32 : F .f32)) (broadcast S128x128 (Scalar.ofBits .f32 0x00000000#32 : F .f32))) bitsLt_bf16_f32

/-- A block of the input, its columns permuted. -/
def permuted256 (x : Vec F S96x256 .bf16) : Vec F S96x256 .bf16 :=
  shapeCast S96x256 (truncf .bf16 (matmul dot_S96x256_S256x256_S96x256_1_0_0_1_n_n none
    (shapeCast S96x256 x shapeCasts_S96x256_S96x256) (perm256 (F := F)) (constant S96x256 .f32 0x00000000#32)) bitsLt_bf16_f32) shapeCasts_S96x256_S96x256

/-- The half block of the input, its columns permuted. -/
def permuted128 (x : Vec F S96x128 .bf16) : Vec F S96x128 .bf16 :=
  shapeCast S96x128 (truncf .bf16 (matmul dot_S96x128_S128x128_S96x128_1_0_0_1_n_n none
    (shapeCast S96x128 x shapeCasts_S96x128_S96x128) (perm128 (F := F)) (constant S96x128 .f32 0x00000000#32)) bitsLt_bf16_f32) shapeCasts_S96x128_S96x128

/-- Block `r` of the input, permuted into the scratch. -/
def permBlk (arg1 arg8 : Memref sig .tc .vmem S96x8576 .bf16) (harg8 : arg8.IsWhole) (r : Nat) (h : r < 33) :
    Prog (TpuEff nD τ sig (Elt F) Λ₀ .tc) PUnit := do
  let x : Vec F S96x256 .bf16 ← Prog.lift (.load arg1 (Rect.unit (s := S96x8576) ![0, 256 * r] S96x256.size (inbX h)).toLoadRect (View.loadsAt_vmem h_S96x256))
  let _ : Vec F S96x256 .bf16 ← Prog.lift (.load arg8 (Rect.unit (s := S96x8576) ![0, 256 * r] S96x256.size (inbX h)).toLoadRect (View.loadsAt_vmem h_S96x256))
  Prog.lift (.store arg8 (Rect.unit (s := S96x8576) ![0, 256 * r] S96x256.size (inbX h)) (permuted256 x) Finset.univ (View.stores_vmem h_S96x256 (harg8.storeExact_slice rfl _ (packedX h)) (fun _ => rfl)) (.inl rfl))

/-- The half block of the input, permuted into the scratch. -/
def permHalf (arg1 arg8 : Memref sig .tc .vmem S96x8576 .bf16) (harg8 : arg8.IsWhole) :
    Prog (TpuEff nD τ sig (Elt F) Λ₀ .tc) PUnit := do
  let x : Vec F S96x128 .bf16 ← Prog.lift (.load arg1 (Rect.unit (s := S96x8576) ![0, 8448] S96x128.size inb_S96x8576_S96x128_0_8448).toLoadRect (View.loadsAt_vmem h_S96x128))
  let _ : Vec F S96x128 .bf16 ← Prog.lift (.load arg8 (Rect.unit (s := S96x8576) ![0, 8448] S96x128.size inb_S96x8576_S96x128_0_8448).toLoadRect (View.loadsAt_vmem h_S96x128))
  Prog.lift (.store arg8 (Rect.unit (s := S96x8576) ![0, 8448] S96x128.size inb_S96x8576_S96x128_0_8448) (permuted128 x) Finset.univ (View.stores_vmem h_S96x128 (harg8.storeExact_slice rfl _ packedbf16_S96x8576_S96x128_0_8448) (fun _ => rfl)) (.inl rfl))

/-- `n` permuted blocks from block `r` on. -/
def permChain (arg1 arg8 : Memref sig .tc .vmem S96x8576 .bf16) (harg8 : arg8.IsWhole) : (n r : Nat) → r + n ≤ 33 →
    Prog (TpuEff nD τ sig (Elt F) Λ₀ .tc) PUnit
  | 0, _, _ => pure ⟨⟩
  | n + 1, r, h => do
    permBlk arg1 arg8 harg8 r (by omega)
    permChain arg1 arg8 harg8 n (r + 1) (by omega)

/-- The zero points of field `f` of the packed words, each copied to the eight nibbles of its word. -/
def zeroField (zp : IVec S67x909 32) (f : Nat) : IVec S67x909 32 :=
  muli (andi (shrui zp (broadcast S67x909 (BitVec.ofNat 32 (3 * f)))) (broadcast S67x909 7#32)) (broadcast S67x909 286331153#32)

/-- Field `f` of the zero points, stored at its columns. -/
def zeroBlk (arg9 : Memref sig .tc .vmem S67x9216 .i32) (zp : IVec S67x909 32) (f : Nat) (h : f < 9) :
    Prog (TpuEff nD τ sig (Elt F) Λ₀ .tc) PUnit := do
  let _ : Vec F S67x909 .i32 ← Prog.lift (.load arg9 (Rect.unit (s := S67x9216) ![0, 909 * f] S67x909.size (inbT h)).toLoadRect (View.loadsAt_vmem h_S67x909))
  Prog.lift (.store arg9 (Rect.unit (s := S67x9216) ![0, 909 * f] S67x909.size (inbT h)) (shapeCast S67x909 (zeroField zp f) shapeCasts_S67x909_S67x909) Finset.univ (View.stores_vmem_bits_univ h_S67x909 rfl) (.inl rfl))

/-- `n` fields of the zero points from field `f` on. -/
def zeroChain (arg9 : Memref sig .tc .vmem S67x9216 .i32) (zp : IVec S67x909 32) : (n f : Nat) → f + n ≤ 9 →
    Prog (TpuEff nD τ sig (Elt F) Λ₀ .tc) PUnit
  | 0, _, _ => pure ⟨⟩
  | n + 1, f, h => do
    zeroBlk arg9 zp f (by omega)
    zeroChain arg9 zp n (f + 1) (by omega)

/-- The last field of the zero points, short by the columns past the weights'. -/
def zeroLast (arg9 : Memref sig .tc .vmem S67x9216 .i32) (zp : IVec S67x909 32) :
    Prog (TpuEff nD τ sig (Elt F) Λ₀ .tc) PUnit := do
  let _ : Vec F S67x907 .i32 ← Prog.lift (.load arg9 (Rect.unit (s := S67x9216) ![0, 8181] S67x907.size inb_S67x9216_S67x907_0_8181).toLoadRect (View.loadsAt_vmem h_S67x907))
  Prog.lift (.store arg9 (Rect.unit (s := S67x9216) ![0, 8181] S67x907.size inb_S67x9216_S67x907_0_8181) (shapeCast S67x907 (extractStridedSlice S67x907 ![0, 0] (zeroField zp 9) slices_S67x909_o0_0_S67x907) shapeCasts_S67x907_S67x907) Finset.univ (View.stores_vmem_bits_univ h_S67x907 rfl) (.inl rfl))

/-- What the first grid point does before its contraction: the permuted input and the unpacked zero points. -/
def prologue (arg1 : Memref sig .tc .vmem S96x8576 .bf16) (arg6 : Memref sig .tc .vmem S67x909 .i32)
    (arg8 : Memref sig .tc .vmem S96x8576 .bf16) (harg8 : arg8.IsWhole) (arg9 : Memref sig .tc .vmem S67x9216 .i32) :
    Prog (TpuEff nD τ sig (Elt F) Λ₀ .tc) PUnit := do
  permChain arg1 arg8 harg8 33 0 (by omega)
  permHalf arg1 arg8 harg8
  let zp : Vec F S67x909 .i32 ← Prog.lift (.load arg6 (Rect.unit (s := S67x909) ![0, 0] S67x909.size inb_S67x909_S67x909_0_0).toLoadRect (View.loadsAt_vmem h_S67x909))
  zeroChain arg9 zp 9 0 (by omega)
  zeroLast arg9 zp

/-! ## The printed body is the chain -/

/-- The printed body's branch word: is this the first grid point? -/
def firstWord (i : grid0.Coords) : BitVec 1 :=
  Scalar.cmpi .ne (Scalar.extui (Scalar.cmpi .eq (BitVec.ofNat 32 (i 0).val) 0#32) : BitVec 32) 0#32

omit [Facts] in
theorem firstWord_iff (i : grid0.Coords) : firstWord i = 1#1 ↔ (i 0).val = 0 := by
  have h : ∀ t : Fin 18, (Scalar.cmpi .ne (Scalar.extui (Scalar.cmpi .eq (BitVec.ofNat 32 t.val) 0#32) : BitVec 32) 0#32) = 1#1 ↔ t.val = 0 := by
    decide +kernel
  exact h (i 0)

section
variable (i : grid0.Coords) (arg1 : Memref sig .tc .vmem S96x8576 .bf16) (harg1 : arg1.IsWhole) (arg2 : Memref sig .tc .vmem S1072x512 .i8) (harg2 : arg2.IsWhole) (arg3 : Memref sig .tc .vmem S1072x512 .i8) (harg3 : arg3.IsWhole) (arg4 : Memref sig .tc .vmem S1072x512 .i8) (harg4 : arg4.IsWhole) (arg5 : Memref sig .tc .vmem S67x512 .bf16) (harg5 : arg5.IsWhole) (arg6 : Memref sig .tc .vmem S67x909 .i32) (harg6 : arg6.IsWhole) (arg7 : Memref sig .tc .vmem S96x512 .bf16) (harg7 : arg7.IsWhole) (arg8 : Memref sig .tc .vmem S96x8576 .bf16) (harg8 : arg8.IsWhole) (arg9 : Memref sig .tc .vmem S67x9216 .i32) (harg9 : arg9.IsWhole) (arg10 : Memref sig .tc .vmem S67x512 .i32) (harg10 : arg10.IsWhole)

/-- Past the first grid point the printed body is the contraction alone. -/
theorem body_rest (hi : ¬ firstWord i = 1#1) :
    cc0_w3_linear (F := F) i arg1 harg1 arg2 harg2 arg3 harg3 arg4 harg4 arg5 harg5 arg6 harg6 arg7 harg7 arg8 harg8 arg9 harg9 arg10 harg10 =
      rest i arg2 arg3 arg4 arg5 arg7 harg7 arg8 arg9 arg10 harg10 := by
  unfold cc0_w3_linear k0_part175 k0_part49
  dsimp only
  rw [dif_neg (show ¬ (Scalar.cmpi .ne (Scalar.extui (Scalar.cmpi .eq (BitVec.ofNat 32 (i 0).val) 0#32) : BitVec 32) 0#32 = 1#1) from hi)]
  sl_kernel_rfl

/-- At the first grid point it is the prologue, then the contraction. -/
theorem body_first (hi : firstWord i = 1#1) :
    cc0_w3_linear (F := F) i arg1 harg1 arg2 harg2 arg3 harg3 arg4 harg4 arg5 harg5 arg6 harg6 arg7 harg7 arg8 harg8 arg9 harg9 arg10 harg10 =
      (prologue arg1 arg6 arg8 harg8 arg9 >>= fun _ => rest i arg2 arg3 arg4 arg5 arg7 harg7 arg8 arg9 arg10 harg10) := by
  unfold cc0_w3_linear k0_part175 k0_part49
  dsimp only
  rw [dif_pos (show Scalar.cmpi .ne (Scalar.extui (Scalar.cmpi .eq (BitVec.ofNat 32 (i 0).val) 0#32) : BitVec 32) 0#32 = 1#1 from hi)]
  sl_kernel_rfl

end

end Cert.Kernel
-- ==== Proof.StepsBits.lean ====
module

public import proofs.«01_k».proof.Proof.BodyBits
public import proofs.«01_k».proof.Proof.Owned
public import proofs.«01_k».proof.Proof.Gen.Kernel.Frame

/-! # What each kind of block does

Each program of `Body.lean`, run with its buffers owned: which buffers it leaves as they were, what it
writes, and the value it hands on. -/

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Owned

variable {F : FTy → Type} [BitOps F]
variable [Facts]
open Facts₀ Facts

local notation "𝕄" => MT nD τ sig Unit (Elt F) ℕ (UR sig nD τ) ℕ

/-! ## The values -/

/-- The accumulator after block `r`. -/
def blkVal (i : grid0.Coords) (X2 X3 X4 : Vec F S1072x512 .i8) (X8 : Vec F S96x8576 .bf16) (X9 : Vec F S67x9216 .i32)
    (X10 : Vec F S67x512 .i32) (r : Nat) (h : r < 33) (acc : FVec F S96x512 .f32) : FVec F S96x512 .f32 :=
  addf acc (matmul dot_S96x256_S256x512_S96x512_1_0_0_1_n_n none (VecWindow.window X8 ![0, 256 * r] S96x256.size (inbX h))
    (weights (bitcast S8x512 32 (VecWindow.window X2 ![32 * r, 0] S32x512.size (inbP h) : Vec F S32x512 .i8) bitcasts_S32x512_w8_S8x512_w32)
      (bitcast S8x512 32 (VecWindow.window X3 ![32 * r, 0] S32x512.size (inbP h) : Vec F S32x512 .i8) bitcasts_S32x512_w8_S8x512_w32)
      (bitcast S8x512 32 (VecWindow.window X4 ![32 * r, 0] S32x512.size (inbP h) : Vec F S32x512 .i8) bitcasts_S32x512_w8_S8x512_w32)
      (zeros8 (VecWindow.window X9 (zoff i (2 * r)) S1x512.size (inbZ i (by omega)))
        (VecWindow.window X9 (zoff i (2 * r + 1)) S1x512.size (inbZ i (by omega))))
      (scale16 (VecWindow.window X10 ![2 * r, 0] S1x512.size (inbS (by omega))))
      (scale16 (VecWindow.window X10 ![2 * r + 1, 0] S1x512.size (inbS (by omega)))))
    (constant S96x512 .f32 0x00000000#32))

/-- The accumulator after the half block. -/
def halfVal (i : grid0.Coords) (X2 X3 X4 : Vec F S1072x512 .i8) (X8 : Vec F S96x8576 .bf16) (X9 : Vec F S67x9216 .i32)
    (X10 : Vec F S67x512 .i32) (acc : FVec F S96x512 .f32) : FVec F S96x512 .f32 :=
  addf acc (matmul dot_S96x128_S128x512_S96x512_1_0_0_1_n_n none
    (VecWindow.window X8 ![0, 8448] S96x128.size inb_S96x8576_S96x128_0_8448)
    (weightsHalf (bitcast S4x512 32 (VecWindow.window X2 ![1056, 0] S16x512.size inb_S1072x512_S16x512_1056_0 : Vec F S16x512 .i8) bitcasts_S16x512_w8_S4x512_w32)
      (bitcast S4x512 32 (VecWindow.window X3 ![1056, 0] S16x512.size inb_S1072x512_S16x512_1056_0 : Vec F S16x512 .i8) bitcasts_S16x512_w8_S4x512_w32)
      (bitcast S4x512 32 (VecWindow.window X4 ![1056, 0] S16x512.size inb_S1072x512_S16x512_1056_0 : Vec F S16x512 .i8) bitcasts_S16x512_w8_S4x512_w32)
      (VecWindow.window X9 (zoff i 66) S1x512.size (inbZ i (by omega)))
      (scale16 (VecWindow.window X10 ![66, 0] S1x512.size (inbS (by omega)))))
    (constant S96x512 .f32 0x00000000#32))

/-- The accumulator after `n` blocks from block `r` on. -/
def chainVal (i : grid0.Coords) (X2 X3 X4 : Vec F S1072x512 .i8) (X8 : Vec F S96x8576 .bf16) (X9 : Vec F S67x9216 .i32)
    (X10 : Vec F S67x512 .i32) : (n r : Nat) → r + n ≤ 33 → FVec F S96x512 .f32 → FVec F S96x512 .f32
  | 0, _, _, acc => acc
  | n + 1, r, h, acc => chainVal i X2 X3 X4 X8 X9 X10 n (r + 1) (by omega) (blkVal i X2 X3 X4 X8 X9 X10 r (by omega) acc)

/-- The block of the result a grid point writes. -/
def outVal (i : grid0.Coords) (X2 X3 X4 : Vec F S1072x512 .i8) (X8 : Vec F S96x8576 .bf16) (X9 : Vec F S67x9216 .i32)
    (X10 : Vec F S67x512 .i32) : Vec F S96x512 .bf16 :=
  truncf .bf16 (halfVal i X2 X3 X4 X8 X9 X10
    (chainVal i X2 X3 X4 X8 X9 X10 33 0 (by omega) (broadcast S96x512 (Scalar.ofBits .f32 0x00000000#32)))) bitsLt_bf16_f32

/-- The scratch after `n` permuted blocks from block `r` on. -/
def permVal (X1 : Vec F S96x8576 .bf16) : (n r : Nat) → r + n ≤ 33 → Vec F S96x8576 .bf16 → Vec F S96x8576 .bf16
  | 0, _, _, X8 => X8
  | n + 1, r, h, X8 => permVal X1 n (r + 1) (by omega)
      (VecWindow.put X8 ![0, 256 * r] S96x256.size (permuted256 (VecWindow.window X1 ![0, 256 * r] S96x256.size (inbX (by omega)) : Vec F S96x256 .bf16)))

/-- The whole permuted input. -/
def permAll (X1 X8 : Vec F S96x8576 .bf16) : Vec F S96x8576 .bf16 :=
  VecWindow.put (permVal X1 33 0 (by omega) X8) ![0, 8448] S96x128.size
    (permuted128 (VecWindow.window X1 ![0, 8448] S96x128.size inb_S96x8576_S96x128_0_8448 : Vec F S96x128 .bf16))

/-- The zero points after `n` fields from field `f` on. -/
def zeroVal (zp : IVec S67x909 32) : (n f : Nat) → f + n ≤ 9 → Vec F S67x9216 .i32 → Vec F S67x9216 .i32
  | 0, _, _, X9 => X9
  | n + 1, f, h, X9 => zeroVal zp n (f + 1) (by omega)
      (VecWindow.put X9 ![0, 909 * f] S67x909.size (shapeCast S67x909 (zeroField zp f) shapeCasts_S67x909_S67x909))

/-- All the zero points. -/
def zeroAll (X6 : Vec F S67x909 .i32) (X9 : Vec F S67x9216 .i32) : Vec F S67x9216 .i32 :=
  VecWindow.put (zeroVal (F := F) X6 9 0 (by omega) X9) ![0, 8181] S67x907.size
    (shapeCast S67x907 (extractStridedSlice S67x907 ![0, 0] (zeroField X6 9) slices_S67x909_o0_0_S67x907) shapeCasts_S67x907_S67x907)

/-! ## Whole windows -/

omit [BitOps F] [Facts] in
/-- The window of the shape's own sizes is the contents. -/
theorem window_whole {s : Shape} {α : Type} {off : Fin s.rank → ℕ} {X : s.Idx → α} (inb : ∀ a, off a + s.size a ≤ s.size a) :
    VecWindow.window X off s.size inb = X := by
  funext y
  refine congrArg X (funext fun a => Fin.ext ?_)
  have := inb a
  simp [Rect.emb, Rect.unit]
  omega

omit [BitOps F] [Facts] in
/-- Putting a window of the shape's own sizes puts the payload. -/
theorem put_whole {s : Shape} {α : Type} {off : Fin s.rank → ℕ} {X w : s.Idx → α} (inb : ∀ a, off a + s.size a ≤ s.size a) :
    VecWindow.put X off s.size w = w := by
  funext y
  have h : ∀ a, off a = 0 := fun a => by have := inb a; omega
  unfold VecWindow.put
  rw [dif_pos fun a => ⟨by rw [h a]; omega, by rw [h a]; have := (y a).isLt; omega⟩]
  refine congrArg w (funext fun a => Fin.ext ?_)
  simp [Rect.unitLocal, h a]

/-! ## The contraction -/

section Runs

variable (c : Dev nD) (i : grid0.Coords) (arg1 : Memref sig .tc .vmem S96x8576 .bf16) (arg2 arg3 arg4 : Memref sig .tc .vmem S1072x512 .i8)
  (arg5 : Memref sig .tc .vmem S67x512 .bf16) (arg6 : Memref sig .tc .vmem S67x909 .i32)
  (arg7 : Memref sig .tc .vmem S96x512 .bf16) (harg7 : arg7.IsWhole)
  (arg8 : Memref sig .tc .vmem S96x8576 .bf16) (harg8 : arg8.IsWhole) (arg9 : Memref sig .tc .vmem S67x9216 .i32)
  (arg10 : Memref sig .tc .vmem S67x512 .i32) (harg10 : arg10.IsWhole)
  (X1 : Vec F S96x8576 .bf16) (X2 X3 X4 : Vec F S1072x512 .i8) (X5 : Vec F S67x512 .bf16) (X6 : Vec F S67x909 .i32)
  (X7 : Vec F S96x512 .bf16) (X8 : Vec F S96x8576 .bf16) (X9 : Vec F S67x9216 .i32) (X10 : Vec F S67x512 .i32)

/-- The buffers the contraction reads. -/
def held : sProp 𝕄 :=
  iprop(owns (c : Thread nD τ) arg2 fullShare X2 ∗ owns (c : Thread nD τ) arg3 fullShare X3 ∗ owns (c : Thread nD τ) arg4 fullShare X4
    ∗ owns (c : Thread nD τ) arg8 fullShare X8 ∗ owns (c : Thread nD τ) arg9 fullShare X9 ∗ owns (c : Thread nD τ) arg10 fullShare X10)

/-- A program of the core, run to a postcondition. -/
abbrev runs {α : Type} (Q : α → sProp 𝕄) (p : Prog (TpuEff nD τ sig (Elt F) Λ₀ .tc) α) : sProp 𝕄 :=
  wp frame (wpE (defs₀ (F := F)) Variants.none (c : Thread nD τ) none) Set.univ p Q

/-- A block adds to the accumulator and leaves its buffers. -/
theorem blk_run {α : Type} (Q : α → sProp 𝕄) (r : Nat) (h : r < 33) (acc : FVec F S96x512 .f32) (κ : FVec F S96x512 .f32 → Prog (TpuEff nD τ sig (Elt F) Λ₀ .tc) α) :
    held c arg2 arg3 arg4 arg8 arg9 arg10 X2 X3 X4 X8 X9 X10
      ⊢ iprop((held c arg2 arg3 arg4 arg8 arg9 arg10 X2 X3 X4 X8 X9 X10 -∗ runs c Q (κ (blkVal i X2 X3 X4 X8 X9 X10 r h acc)))
        -∗ runs c Q (blk i arg2 arg3 arg4 arg8 arg9 arg10 r h acc >>= κ)) := by
  unfold held blk runs
  simp only [Prog.lift, Prog.bind_op, Prog.bind_ret]
  iintro ⟨H2, H3, H4, H8, H9, H10⟩ HK
  iapply (wp_load_owned Variants.none (c : Thread nD τ) none Set.univ) $$ H2; iintro H2
  iapply (wp_load_owned Variants.none (c : Thread nD τ) none Set.univ) $$ H3; iintro H3
  iapply (wp_load_owned Variants.none (c : Thread nD τ) none Set.univ) $$ H4; iintro H4
  iapply (wp_load_owned Variants.none (c : Thread nD τ) none Set.univ) $$ H9; iintro H9
  iapply (wp_load_owned Variants.none (c : Thread nD τ) none Set.univ) $$ H9; iintro H9
  iapply (wp_load_owned Variants.none (c : Thread nD τ) none Set.univ) $$ H10; iintro H10
  iapply (wp_load_owned Variants.none (c : Thread nD τ) none Set.univ) $$ H10; iintro H10
  iapply (wp_load_owned Variants.none (c : Thread nD τ) none Set.univ) $$ H8; iintro H8
  iapply HK
  isplitl [H2]; · iexact H2
  isplitl [H3]; · iexact H3
  isplitl [H4]; · iexact H4
  isplitl [H8]; · iexact H8
  isplitl [H9]; · iexact H9
  iexact H10

/-- The half block likewise. -/
theorem half_run {α : Type} (Q : α → sProp 𝕄) (acc : FVec F S96x512 .f32) (κ : FVec F S96x512 .f32 → Prog (TpuEff nD τ sig (Elt F) Λ₀ .tc) α) :
    held c arg2 arg3 arg4 arg8 arg9 arg10 X2 X3 X4 X8 X9 X10
      ⊢ iprop((held c arg2 arg3 arg4 arg8 arg9 arg10 X2 X3 X4 X8 X9 X10 -∗ runs c Q (κ (halfVal i X2 X3 X4 X8 X9 X10 acc)))
        -∗ runs c Q (half i arg2 arg3 arg4 arg8 arg9 arg10 acc >>= κ)) := by
  unfold held half runs
  simp only [Prog.lift, Prog.bind_op, Prog.bind_ret]
  iintro ⟨H2, H3, H4, H8, H9, H10⟩ HK
  iapply (wp_load_owned Variants.none (c : Thread nD τ) none Set.univ) $$ H2; iintro H2
  iapply (wp_load_owned Variants.none (c : Thread nD τ) none Set.univ) $$ H3; iintro H3
  iapply (wp_load_owned Variants.none (c : Thread nD τ) none Set.univ) $$ H4; iintro H4
  iapply (wp_load_owned Variants.none (c : Thread nD τ) none Set.univ) $$ H9; iintro H9
  iapply (wp_load_owned Variants.none (c : Thread nD τ) none Set.univ) $$ H10; iintro H10
  iapply (wp_load_owned Variants.none (c : Thread nD τ) none Set.univ) $$ H8; iintro H8
  iapply HK
  isplitl [H2]; · iexact H2
  isplitl [H3]; · iexact H3
  isplitl [H4]; · iexact H4
  isplitl [H8]; · iexact H8
  isplitl [H9]; · iexact H9
  iexact H10

/-- So does a run of blocks. -/
theorem chain_run {α : Type} (Q : α → sProp 𝕄) (κ : FVec F S96x512 .f32 → Prog (TpuEff nD τ sig (Elt F) Λ₀ .tc) α) : ∀ (n r : Nat) (h : r + n ≤ 33) (acc : FVec F S96x512 .f32),
    held c arg2 arg3 arg4 arg8 arg9 arg10 X2 X3 X4 X8 X9 X10
      ⊢ iprop((held c arg2 arg3 arg4 arg8 arg9 arg10 X2 X3 X4 X8 X9 X10 -∗ runs c Q (κ (chainVal i X2 X3 X4 X8 X9 X10 n r h acc)))
        -∗ runs c Q (chain i arg2 arg3 arg4 arg8 arg9 arg10 n r h acc >>= κ))
  | 0, r, h, acc => by
    rw [show (chain i arg2 arg3 arg4 arg8 arg9 arg10 0 r h acc >>= κ) = κ acc from rfl]
    iintro H HK
    iapply HK
    iexact H
  | n + 1, r, h, acc => by
    rw [show (chain i arg2 arg3 arg4 arg8 arg9 arg10 (n + 1) r h acc >>= κ)
      = (blk i arg2 arg3 arg4 arg8 arg9 arg10 r (by omega) acc >>= fun a => chain i arg2 arg3 arg4 arg8 arg9 arg10 n (r + 1) (by omega) a >>= κ) from Prog.bind_assoc _ _ _]
    iintro H HK
    iapply (blk_run c i arg2 arg3 arg4 arg8 arg9 arg10 X2 X3 X4 X8 X9 X10 Q r _ acc (fun a => chain i arg2 arg3 arg4 arg8 arg9 arg10 n (r + 1) _ a >>= κ)) $$ H; iintro H
    iapply (chain_run Q κ n (r + 1) _ (blkVal i X2 X3 X4 X8 X9 X10 r _ acc)) $$ H
    iexact HK

/-- A grid point after its scratch is there: the scales are stored as words, the blocks are run and the result's block is stored. -/
theorem rest_run (Q : PUnit → sProp 𝕄) :
    iprop(held c arg2 arg3 arg4 arg8 arg9 arg10 X2 X3 X4 X8 X9 X10 ∗ owns (c : Thread nD τ) arg5 fullShare X5 ∗ owns (c : Thread nD τ) arg7 fullShare X7)
      ⊢ iprop((held c arg2 arg3 arg4 arg8 arg9 arg10 X2 X3 X4 X8 X9 (scaleWords X5) ∗ owns (c : Thread nD τ) arg5 fullShare X5
          ∗ owns (c : Thread nD τ) arg7 fullShare (outVal i X2 X3 X4 X8 X9 (scaleWords X5)) -∗ Q ⟨⟩)
        -∗ runs c Q (rest i arg2 arg3 arg4 arg5 arg7 harg7 arg8 arg9 arg10 harg10)) := by
  unfold rest runs
  simp only [Prog.lift, Prog.bind_op, Prog.bind_ret]
  iintro ⟨HH, H5, H7⟩ HK
  unfold held
  icases HH with ⟨H2, H3, H4, H8, H9, H10⟩
  iapply (wp_load_owned Variants.none (c : Thread nD τ) none Set.univ) $$ H5; iintro H5
  iapply (wp_load_owned Variants.none (c : Thread nD τ) none Set.univ) $$ H10; iintro H10
  iapply (wp_store_owned Variants.none (c : Thread nD τ) none Set.univ) $$ H10; iintro H10
  rw [put_whole inb_S67x512_S67x512_0_0, window_whole inb_S67x512_S67x512_0_0]
  iapply (chain_run c i arg2 arg3 arg4 arg8 arg9 arg10 X2 X3 X4 X8 X9 (scaleWords X5) Q (fun acc => half i arg2 arg3 arg4 arg8 arg9 arg10 acc >>= _) 33 0 _ (broadcast S96x512 (Scalar.ofBits .f32 0x00000000#32))) $$ [H2 H3 H4 H8 H9 H10]
  · unfold held
    isplitl [H2]; · iexact H2
    isplitl [H3]; · iexact H3
    isplitl [H4]; · iexact H4
    isplitl [H8]; · iexact H8
    isplitl [H9]; · iexact H9
    iexact H10
  iintro HH
  iapply (half_run c i arg2 arg3 arg4 arg8 arg9 arg10 X2 X3 X4 X8 X9 (scaleWords X5) Q) $$ HH; iintro HH
  iapply (wp_load_owned Variants.none (c : Thread nD τ) none Set.univ) $$ H7; iintro H7
  iapply (wp_store_owned Variants.none (c : Thread nD τ) none Set.univ) $$ H7; iintro H7
  rw [put_whole inb_S96x512_S96x512_0_0, wp_pure]
  imodintro
  unfold held
  iapply HK
  isplitl [HH]; · iexact HH
  isplitl [H5]; · iexact H5
  iexact H7

/-! ## The first grid point's scratch -/

/-- A permuted block is put into the scratch. -/
theorem permBlk_run {α : Type} (Q : α → sProp 𝕄) (r : Nat) (h : r < 33) (κ : PUnit → Prog (TpuEff nD τ sig (Elt F) Λ₀ .tc) α) :
    iprop(owns (c : Thread nD τ) arg1 fullShare X1 ∗ owns (c : Thread nD τ) arg8 fullShare X8)
      ⊢ iprop((owns (c : Thread nD τ) arg1 fullShare X1 ∗ owns (c : Thread nD τ) arg8 fullShare (permVal X1 1 r (by omega) X8) -∗ runs c Q (κ ⟨⟩))
        -∗ runs c Q (permBlk arg1 arg8 harg8 r h >>= κ)) := by
  unfold permBlk runs
  simp only [Prog.lift, Prog.bind_op, Prog.bind_ret]
  iintro ⟨H1, H8⟩ HK
  iapply (wp_load_owned Variants.none (c : Thread nD τ) none Set.univ) $$ H1; iintro H1
  iapply (wp_load_owned Variants.none (c : Thread nD τ) none Set.univ) $$ H8; iintro H8
  iapply (wp_store_owned Variants.none (c : Thread nD τ) none Set.univ) $$ H8; iintro H8
  iapply HK
  isplitl [H1]; · iexact H1
  iexact H8

theorem permChain_run {α : Type} (Q : α → sProp 𝕄) (κ : PUnit → Prog (TpuEff nD τ sig (Elt F) Λ₀ .tc) α) : ∀ (n r : Nat) (h : r + n ≤ 33) (X8 : Vec F S96x8576 .bf16),
    iprop(owns (c : Thread nD τ) arg1 fullShare X1 ∗ owns (c : Thread nD τ) arg8 fullShare X8)
      ⊢ iprop((owns (c : Thread nD τ) arg1 fullShare X1 ∗ owns (c : Thread nD τ) arg8 fullShare (permVal X1 n r h X8) -∗ runs c Q (κ ⟨⟩))
        -∗ runs c Q (permChain arg1 arg8 harg8 n r h >>= κ))
  | 0, r, h, X8 => by
    rw [show (permChain arg1 arg8 harg8 0 r h >>= κ : Prog (TpuEff nD τ sig (Elt F) Λ₀ .tc) α) = κ ⟨⟩ from rfl]
    iintro H HK
    iapply HK
    iexact H
  | n + 1, r, h, X8 => by
    rw [show (permChain arg1 arg8 harg8 (n + 1) r h >>= κ : Prog (TpuEff nD τ sig (Elt F) Λ₀ .tc) α)
      = (permBlk arg1 arg8 harg8 r (by omega) >>= fun _ => permChain arg1 arg8 harg8 n (r + 1) (by omega) >>= κ) from Prog.bind_assoc _ _ _]
    iintro H HK
    iapply (permBlk_run c arg1 arg8 harg8 X1 X8 Q r _ (fun _ => permChain arg1 arg8 harg8 n (r + 1) _ >>= κ)) $$ H; iintro H
    iapply (permChain_run Q κ n (r + 1) _ (permVal X1 1 r _ X8)) $$ H
    iexact HK

/-- A field of the zero points is put into its scratch. -/
theorem zeroBlk_run {α : Type} (Q : α → sProp 𝕄) (zp : IVec S67x909 32) (f : Nat) (h : f < 9) (κ : PUnit → Prog (TpuEff nD τ sig (Elt F) Λ₀ .tc) α) :
    owns (c : Thread nD τ) arg9 fullShare X9
      ⊢ iprop((owns (c : Thread nD τ) arg9 fullShare (zeroVal (F := F) zp 1 f (by omega) X9) -∗ runs c Q (κ ⟨⟩))
        -∗ runs c Q (zeroBlk arg9 zp f h >>= κ)) := by
  unfold zeroBlk runs
  simp only [Prog.lift, Prog.bind_op, Prog.bind_ret]
  iintro H9 HK
  iapply (wp_load_owned Variants.none (c : Thread nD τ) none Set.univ) $$ H9; iintro H9
  iapply (wp_store_owned Variants.none (c : Thread nD τ) none Set.univ) $$ H9; iintro H9
  iapply HK
  iexact H9

theorem zeroChain_run {α : Type} (Q : α → sProp 𝕄) (zp : IVec S67x909 32) (κ : PUnit → Prog (TpuEff nD τ sig (Elt F) Λ₀ .tc) α) : ∀ (n f : Nat) (h : f + n ≤ 9) (X9 : Vec F S67x9216 .i32),
    owns (c : Thread nD τ) arg9 fullShare X9
      ⊢ iprop((owns (c : Thread nD τ) arg9 fullShare (zeroVal (F := F) zp n f h X9) -∗ runs c Q (κ ⟨⟩))
        -∗ runs c Q (zeroChain arg9 zp n f h >>= κ))
  | 0, f, h, X9 => by
    rw [show (zeroChain arg9 zp 0 f h >>= κ : Prog (TpuEff nD τ sig (Elt F) Λ₀ .tc) α) = κ ⟨⟩ from rfl]
    iintro H HK
    iapply HK
    iexact H
  | n + 1, f, h, X9 => by
    rw [show (zeroChain arg9 zp (n + 1) f h >>= κ : Prog (TpuEff nD τ sig (Elt F) Λ₀ .tc) α)
      = (zeroBlk arg9 zp f (by omega) >>= fun _ => zeroChain arg9 zp n (f + 1) (by omega) >>= κ) from Prog.bind_assoc _ _ _]
    iintro H HK
    iapply (zeroBlk_run c arg9 X9 Q zp f _ (fun _ => zeroChain arg9 zp n (f + 1) _ >>= κ)) $$ H; iintro H
    iapply (zeroChain_run Q zp κ n (f + 1) _ (zeroVal (F := F) zp 1 f _ X9)) $$ H
    iexact HK

/-- What the first grid point does before its contraction: both scratches are filled. -/
theorem prologue_run {α : Type} (Q : α → sProp 𝕄) (κ : PUnit → Prog (TpuEff nD τ sig (Elt F) Λ₀ .tc) α) :
    iprop(owns (c : Thread nD τ) arg1 fullShare X1 ∗ owns (c : Thread nD τ) arg6 fullShare X6
        ∗ owns (c : Thread nD τ) arg8 fullShare X8 ∗ owns (c : Thread nD τ) arg9 fullShare X9)
      ⊢ iprop((owns (c : Thread nD τ) arg1 fullShare X1 ∗ owns (c : Thread nD τ) arg6 fullShare X6
          ∗ owns (c : Thread nD τ) arg8 fullShare (permAll X1 X8) ∗ owns (c : Thread nD τ) arg9 fullShare (zeroAll X6 X9) -∗ runs c Q (κ ⟨⟩))
        -∗ runs c Q (prologue arg1 arg6 arg8 harg8 arg9 >>= κ)) := by
  unfold prologue
  simp only [Prog.bind_assoc]
  iintro ⟨H1, H6, H8, H9⟩ HK
  iapply (permChain_run c arg1 arg8 harg8 X1 Q _ 33 0 _ X8) $$ [H1 H8]
  · isplitl [H1]; · iexact H1
    iexact H8
  iintro ⟨H1, H8⟩
  unfold permHalf
  simp only [Prog.lift, Prog.bind_op, Prog.bind_ret]
  iapply (wp_load_owned Variants.none (c : Thread nD τ) none Set.univ) $$ H1; iintro H1
  iapply (wp_load_owned Variants.none (c : Thread nD τ) none Set.univ) $$ H8; iintro H8
  iapply (wp_store_owned Variants.none (c : Thread nD τ) none Set.univ) $$ H8; iintro H8
  iapply (wp_load_owned Variants.none (c : Thread nD τ) none Set.univ) $$ H6; iintro H6
  rw [window_whole inb_S67x909_S67x909_0_0]
  iapply (zeroChain_run c arg9 Q X6 _ 9 0 _ X9) $$ H9; iintro H9
  unfold zeroLast
  simp only [Prog.lift, Prog.bind_op, Prog.bind_ret]
  iapply (wp_load_owned Variants.none (c : Thread nD τ) none Set.univ) $$ H9; iintro H9
  iapply (wp_store_owned Variants.none (c : Thread nD τ) none Set.univ) $$ H9; iintro H9
  iapply HK
  isplitl [H1]; · iexact H1
  isplitl [H6]; · iexact H6
  isplitl [H8]; · iexact H8
  iexact H9

end Runs

end Cert.Kernel

end
-- ==== Proof.FramesBits.lean ====
module

public import proofs.«01_k».proof.Proof.StepsBits

/-! # The kernel runs and leaves its arguments

The body at a grid point, from its buffers at any contents to the contents it leaves them with; from it
the frame run, in which nothing is said of what the result's blocks hold. -/

@[expose] public section

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Owned

variable {F : FTy → Type} [BitOps F]

local notation "𝕄" => MT nD τ sig Unit (Elt F) ℕ (UR sig nD τ) ℕ

/-! ## The body -/

/-- The permuted input after a point's body: filled at the first point. -/
def xpAt (i : grid0.Coords) (X1 X8 : Vec F S96x8576 .bf16) : Vec F S96x8576 .bf16 :=
  if (i 0).val = 0 then permAll X1 X8 else X8

/-- The zero points after a point's body: filled at the first point. -/
def zpAt (i : grid0.Coords) (X6 : Vec F S67x909 .i32) (X9 : Vec F S67x9216 .i32) : Vec F S67x9216 .i32 :=
  if (i 0).val = 0 then zeroAll X6 X9 else X9

theorem body_run (c : Dev nD) (i : grid0.Coords)
    (arg1 : Memref sig .tc .vmem S96x8576 .bf16) (harg1 : arg1.IsWhole)
    (arg2 : Memref sig .tc .vmem S1072x512 .i8) (harg2 : arg2.IsWhole)
    (arg3 : Memref sig .tc .vmem S1072x512 .i8) (harg3 : arg3.IsWhole)
    (arg4 : Memref sig .tc .vmem S1072x512 .i8) (harg4 : arg4.IsWhole)
    (arg5 : Memref sig .tc .vmem S67x512 .bf16) (harg5 : arg5.IsWhole)
    (arg6 : Memref sig .tc .vmem S67x909 .i32) (harg6 : arg6.IsWhole)
    (arg7 : Memref sig .tc .vmem S96x512 .bf16) (harg7 : arg7.IsWhole)
    (arg8 : Memref sig .tc .vmem S96x8576 .bf16) (harg8 : arg8.IsWhole)
    (arg9 : Memref sig .tc .vmem S67x9216 .i32) (harg9 : arg9.IsWhole)
    (arg10 : Memref sig .tc .vmem S67x512 .i32) (harg10 : arg10.IsWhole)
    (X1 : Vec F S96x8576 .bf16) (X2 X3 X4 : Vec F S1072x512 .i8) (X5 : Vec F S67x512 .bf16) (X6 : Vec F S67x909 .i32)
    (X7 : Vec F S96x512 .bf16) (X8 : Vec F S96x8576 .bf16) (X9 : Vec F S67x9216 .i32) (X10 : Vec F S67x512 .i32)
    (Q : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8 ∗ owns (c : Thread nD τ) arg9 fullShare X9
        ∗ owns (c : Thread nD τ) arg10 fullShare X10)
      ⊢ iprop((owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare (outVal i X2 X3 X4 (xpAt i X1 X8) (zpAt i X6 X9) (scaleWords X5))
        ∗ owns (c : Thread nD τ) arg8 fullShare (xpAt i X1 X8) ∗ owns (c : Thread nD τ) arg9 fullShare (zpAt i X6 X9)
        ∗ owns (c : Thread nD τ) arg10 fullShare (scaleWords X5) -∗ Q ⟨⟩)
        -∗ runs c Q (cc0_w3_linear i arg1 harg1 arg2 harg2 arg3 harg3 arg4 harg4 arg5 harg5 arg6 harg6 arg7 harg7 arg8 harg8 arg9 harg9 arg10 harg10)) := by
  by_cases hi : firstWord i = 1#1
  · rw [body_first i arg1 harg1 arg2 harg2 arg3 harg3 arg4 harg4 arg5 harg5 arg6 harg6 arg7 harg7 arg8 harg8 arg9 harg9 arg10 harg10 hi]
    have h0 := (firstWord_iff i).mp hi
    rw [show xpAt i X1 X8 = permAll X1 X8 from if_pos h0, show zpAt i X6 X9 = zeroAll X6 X9 from if_pos h0]
    iintro ⟨H1, H2, H3, H4, H5, H6, H7, H8, H9, H10⟩ HK
    iapply (prologue_run c arg1 arg6 arg8 harg8 arg9 X1 X6 X8 X9 Q) $$ [H1 H6 H8 H9]
    · isplitl [H1]; · iexact H1
      isplitl [H6]; · iexact H6
      isplitl [H8]; · iexact H8
      iexact H9
    iintro ⟨H1, H6, H8, H9⟩
    iapply (rest_run c i arg2 arg3 arg4 arg5 arg7 harg7 arg8 arg9 arg10 harg10 X2 X3 X4 X5 X7 (permAll X1 X8) (zeroAll X6 X9) X10 Q) $$ [H2 H3 H4 H5 H7 H8 H9 H10]
    · unfold held
      isplitl [H2 H3 H4 H8 H9 H10]
      · isplitl [H2]; · iexact H2
        isplitl [H3]; · iexact H3
        isplitl [H4]; · iexact H4
        isplitl [H8]; · iexact H8
        isplitl [H9]; · iexact H9
        iexact H10
      isplitl [H5]; · iexact H5
      iexact H7
    unfold held
    iintro ⟨⟨H2, H3, H4, H8, H9, H10⟩, H5, H7⟩
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [body_rest i arg1 harg1 arg2 harg2 arg3 harg3 arg4 harg4 arg5 harg5 arg6 harg6 arg7 harg7 arg8 harg8 arg9 harg9 arg10 harg10 hi]
    have h0 : ¬ (i 0).val = 0 := fun h => hi ((firstWord_iff i).mpr h)
    rw [show xpAt i X1 X8 = X8 from if_neg h0, show zpAt i X6 X9 = X9 from if_neg h0]
    iintro ⟨H1, H2, H3, H4, H5, H6, H7, H8, H9, H10⟩ HK
    iapply (rest_run c i arg2 arg3 arg4 arg5 arg7 harg7 arg8 arg9 arg10 harg10 X2 X3 X4 X5 X7 X8 X9 X10 Q) $$ [H2 H3 H4 H5 H7 H8 H9 H10]
    · unfold held
      isplitl [H2 H3 H4 H8 H9 H10]
      · isplitl [H2]; · iexact H2
        isplitl [H3]; · iexact H3
        isplitl [H4]; · iexact H4
        isplitl [H8]; · iexact H8
        isplitl [H9]; · iexact H9
        iexact H10
      isplitl [H5]; · iexact H5
      iexact H7
    unfold held
    iintro ⟨⟨H2, H3, H4, H8, H9, H10⟩, H5, H7⟩
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-! ## The frame run -/

variable (m : (ℓ : Loc nD τ sig) → Buf (Elt F) ℓ) (ρ : Dev nD → PrngReg)

/-- Nothing is said of what a staging buffer holds. -/
def forgets : Fin 7 → Bool := fun _ => true

/-- The proof data of the frame run. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem bodyF (c : Dev nD) :
    BodyObligationLoose (datsF (F := F) m 0 c) (defs₀ (F := F)) Variants.none () Set.univ forgets := fun t => by
  rw [bigSep_W0, bigSep_W0]
  simp only [forgets]
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl]
  unfold Pipeline.ΦA
  rw [scopedRest0_eq]
  iintro ⟨⟨⟨⟨%f8, H8⟩, ⟨%f9, H9⟩, ⟨%f10, H10⟩⟩, Hg⟩, Ho, ⟨%X1, H1⟩, ⟨%X2, H2⟩, ⟨%X3, H3⟩, ⟨%X4, H4⟩, ⟨%X5, H5⟩, ⟨%X6, H6⟩, ⟨%X7, H7⟩⟩
  iapply (body_run c (grid0.coords t) _ _ _ _ _ _ _ _ _ _ _ _ _ _ (Memref.whole cc0_scratch0) (Memref.isWhole_whole _) (Memref.whole cc0_scratch1) (Memref.isWhole_whole _)
    (Memref.whole cc0_scratch2) (Memref.isWhole_whole _) X1 X2 X3 X4 X5 X6 X7 f8 f9 f10 _) $$ [H1 H2 H3 H4 H5 H6 H7 H8 H9 H10]
  · simp only [owns_whole_eq]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists f8; isplitr; · ipureintro; rfl
      iexact H8
    isplitl [H9]
    · iexists f9; isplitr; · ipureintro; rfl
      iexact H9
    iexists f10; isplitr; · ipureintro; rfl
    iexact H10
  simp only [owns_whole_eq]
  iintro ⟨H1, H2, H3, H4, H5, H6, H7, ⟨%g8, -, H8⟩, ⟨%g9, -, H9⟩, ⟨%g10, -, H10⟩⟩
  isplitl [H8 H9 H10 Hg]
  · isplitl [H8 H9 H10]
    · isplitl [H8]; · iexists g8; iexact H8
      isplitl [H9]; · iexists g9; iexact H9
      iexists g10; iexact H10
    iexact Hg
  isplitl [Ho]; · iexact Ho
  isplitl [H1]; · iexists X1; iexact H1
  isplitl [H2]; · iexists X2; iexact H2
  isplitl [H3]; · iexists X3; iexact H3
  isplitl [H4]; · iexists X4; iexact H4
  isplitl [H5]; · iexists X5; iexact H5
  isplitl [H6]; · iexists X6; iexact H6
  iexists _; iexact H7

-- the implicit arguments are found by unifying the conclusion with this statement, which takes unfolding plain
-- definitions in a metavariable's type
set_option backward.isDefEq.respectTransparency.types false in
/-- Every weakly fair execution terminates with every argument at its launch contents and every counter at zero. -/
theorem run_frame :
    θ_run defs (onTc (τ := τ) (main (F := F))) (s₀ m ρ)
      (fun r => Pipeline.RDat.FramePost (cfgs 0) (fun c => (datsF m 0 c).toRForget forgets) (V m) r ∧ r.2.sem = fun _ => 0) :=
  Pipeline.θ_run_frame_track_forget (Q' := _) cfgs (datsF m) (0 : Fin 1) launch0 defs₀ Variants.none forgets m ρ main
    (hbody := fun c => bodyF m c) (hshare := fun c => (datsF m 0 c).share_full fun _ => rfl)
    (howed := fun _ _ => rfl) (V := V m) (hmain := hmain m Variants.none) (hA := fun _ _ => rfl)
    (hin := fun _ => .rfl) (hout := fun _ => .rfl) (hQ' := fun _ h => h)

/-- The frame and quiescence, as the claim states them. -/
theorem frame_quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
      ⟨(h.1 c).2 main_arg0 (Pipeline.mem_restRefs_of main_arg0 (by decide) (by decide)) |>.trans (V_main_arg0 m c),
        (h.1.arr_in c 1 rfl).trans (V_main_arg1 m c), (h.1.arr_in c 2 rfl).trans (V_main_arg2 m c),
        (h.1.arr_in c 3 rfl).trans (V_main_arg3 m c), (h.1.arr_in c 4 rfl).trans (V_main_arg4 m c),
        (h.1.arr_in c 5 rfl).trans (V_main_arg5 m c)⟩, h.2⟩) (run_frame m ρ)

end Cert.Kernel

end
-- ==== Proof.Claims.lean ====
module

public import proofs.«01_k».proof.Defs
public import proofs.«01_k».proof.Proof.Frames
public import proofs.«01_k».proof.Proof.FramesBits
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Bf16PairInverse
public import Idealize.ShloMosaic.Lib.Quiescent

/-! # The frames and the idealization's rules

Each program runs, leaves its arguments and ends with every counter at zero; and the rewrites that made
the idealized kernel from the kernel are those of the pair rules. -/

@[expose] public section

noncomputable section

namespace Cert.Proof

open Idealize.ShloMosaic Idealize.SL.Sem

theorem frame_p : Cert.quiescent_Kernel := fun m ρ _ => Cert.Kernel.frame_quiescent m ρ

theorem frame_pi : Cert.quiescent_KernelIdeal := fun m ρ _ => Cert.KernelIdeal.frame_quiescent m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  open Cert.KernelIdeal IdealRules.bf16_pair in
  ⟨bufferStatement S67x2x512 S67x1x512, packStatement S67x512, statement S67x2x512 S67x1x512,
    statement S1x2x512 S1x1x512, statement S2x512 S1x512⟩

end Cert.Proof

end
-- ==== Proof.Bits.lean ====
module

public import Mathlib.Tactic.IntervalCases
public import Mathlib.Tactic.FinCases
public import Mathlib.Tactic.NormNum
public import Idealize.ShloMosaic.PureOps.Ideal

/-! Words of packed codes: what the bit moves of the kernel do to a 32-bit word, one nibble at a time. -/

@[expose] public section
namespace Cert.Bits

/-- Bit `i` of a word as a number. -/
def bit {w : Nat} (x : BitVec w) (i : Nat) : Nat := (x.getLsbD i).toNat

theorem bit_le {w : Nat} (x : BitVec w) (i : Nat) : bit x i ≤ 1 := by
  unfold bit; cases x.getLsbD i <;> decide

/-- The three-bit code whose bits are bit `i` of each of three words. -/
def code {w : Nat} (a b c : BitVec w) (i : Nat) : Nat := bit a i + 2 * bit b i + 4 * bit c i

theorem code_lt {w : Nat} (a b c : BitVec w) (i : Nat) : code a b c i < 8 := by
  have := bit_le a i; have := bit_le b i; have := bit_le c i; unfold code; omega

/-- Nibble `e` of a word. -/
def nib (x : BitVec 32) (e : Nat) : Nat := x.toNat / 16 ^ e % 16

theorem bit_eq (x : BitVec 32) (i : Nat) : bit x i = x.toNat / 2 ^ i % 2 := by
  unfold bit
  rw [BitVec.getLsbD, Nat.testBit_eq_decide_div_mod_eq]
  rcases Nat.mod_two_eq_zero_or_one (x.toNat / 2 ^ i) with h | h <;> simp [h]

theorem nib_eq (x : BitVec 32) (e : Nat) :
    nib x e = bit x (4 * e) + 2 * bit x (4 * e + 1) + 4 * bit x (4 * e + 2) + 8 * bit x (4 * e + 3) := by
  simp only [bit_eq, nib]
  have h : ∀ k, x.toNat / 2 ^ (4 * e + k) = x.toNat / 16 ^ e / 2 ^ k := by
    intro k; rw [pow_add, pow_mul, ← Nat.div_div_eq_div_mul]; norm_num
  have h0 := h 0; have h1 := h 1; have h2 := h 2; have h3 := h 3
  simp only [Nat.add_zero] at h0
  rw [h0, h1, h2, h3]
  generalize x.toNat / 16 ^ e = n
  norm_num
  omega

/-! ## The four words the bit moves make -/

/-- The words of low and high code pairs, and the four words of codes. -/
def lowPair (a b : BitVec 32) : BitVec 32 := a ^^^ ((((a >>> 1) ^^^ b) &&& 1431655765#32) <<< 1)
def highPair (a b : BitVec 32) : BitVec 32 := b ^^^ (((a >>> 1) ^^^ b) &&& 1431655765#32)
def mixHigh (v c : BitVec 32) : BitVec 32 := v ^^^ ((((v >>> 2) ^^^ c) &&& 858993459#32) <<< 2)
def mixLow (v c : BitVec 32) : BitVec 32 := c ^^^ (((v >>> 2) ^^^ c) &&& 858993459#32)

theorem xor_back (p q : Bool) : (q ^^ (p ^^ q)) = p := by cases p <;> cases q <;> rfl

theorem lowPair_bit (a b : BitVec 32) (i : Nat) (hi : i < 32) :
    (lowPair a b).getLsbD i = if i % 2 = 0 then a.getLsbD i else b.getLsbD (i - 1) := by
  interval_cases i <;> simp [lowPair, xor_back]

theorem highPair_bit (a b : BitVec 32) (i : Nat) (hi : i < 32) :
    (highPair a b).getLsbD i = if i % 2 = 0 then a.getLsbD (i + 1) else b.getLsbD i := by
  interval_cases i <;> simp [highPair, xor_back]

theorem mixHigh_bit (v c : BitVec 32) (i : Nat) (hi : i < 32) :
    (mixHigh v c).getLsbD i = if i % 4 < 2 then v.getLsbD i else c.getLsbD (i - 2) := by
  interval_cases i <;> simp [mixHigh, xor_back]

theorem mixLow_bit (v c : BitVec 32) (i : Nat) (hi : i < 32) :
    (mixLow v c).getLsbD i = if i % 4 < 2 then v.getLsbD (i + 2) else c.getLsbD i := by
  interval_cases i <;> simp [mixLow, xor_back]

theorem ones_bit (i : Nat) (hi : i < 32) : (2863311530#32).getLsbD i = decide (i % 2 = 1) := by
  interval_cases i <;> decide

/-- Nibble `e` of the word for field `f`: the code at bit `4e + f`, with the nibble's top bit set. -/
theorem nib_field (a b c : BitVec 32) (f : Fin 4) (e : Nat) (he : e < 8) :
    nib (match f with
      | ⟨0, _⟩ => mixHigh (lowPair a b) (c ||| 2863311530#32)
      | ⟨1, _⟩ => mixHigh (highPair a b) ((c >>> 1) ||| 2863311530#32)
      | ⟨2, _⟩ => mixLow (lowPair a b) (c ||| 2863311530#32)
      | ⟨3, _⟩ => mixLow (highPair a b) ((c >>> 1) ||| 2863311530#32)) e
    = 8 + code a b c (4 * e + f.val) := by
  rw [nib_eq]
  unfold code bit
  fin_cases f <;> interval_cases e <;> simp [-BitVec.getLsbD_eq_getElem, mixHigh_bit, mixLow_bit, lowPair_bit, highPair_bit, ones_bit] <;> omega

/-! ## A signed nibble -/

/-- The zero point `t` in every nibble of a word. -/
def spread (t : Nat) : BitVec 32 := BitVec.ofNat 32 t * 286331153#32

theorem signed_aux : ∀ c < 8, ∀ t < 8, (BitVec.ofNat 4 (8 + c - t) ^^^ 8#4).toInt = (c : Int) - t := by decide

/-- Nibble `e` of `(v - z) ^ 0x88888888`, read as a signed four-bit number, is the code less the zero point. -/
theorem signed_nibble (v : BitVec 32) (t : Nat) (ht : t < 8) (k : Nat → Nat) (hk : ∀ e < 8, k e < 8)
    (hv : ∀ e < 8, nib v e = 8 + k e) (e : Nat) (he : e < 8) :
    (BitVec.setWidth 4 ((((v - spread t) ^^^ 2290649224#32) <<< (28 - 4 * e)).sshiftRight 28)).toInt = (k e : Int) - t := by
  have key : BitVec.setWidth 4 ((((v - spread t) ^^^ 2290649224#32) <<< (28 - 4 * e)).sshiftRight 28)
      = BitVec.ofNat 4 (nib (v - spread t) e) ^^^ 8#4 := by
    generalize v - spread t = w
    apply BitVec.eq_of_getLsbD_eq
    intro i hi
    have hn : (BitVec.ofNat 4 (nib w e)).getLsbD i = w.getLsbD (4 * e + i) := by
      have hb : (w.toNat / 16 ^ e) / 2 ^ i = w.toNat / 2 ^ (4 * e + i) := by
        rw [pow_add, pow_mul, ← Nat.div_div_eq_div_mul]; norm_num
      rw [BitVec.getLsbD_ofNat, nib, BitVec.getLsbD, Nat.testBit_eq_decide_div_mod_eq, Nat.testBit_eq_decide_div_mod_eq, ← hb]
      simp only [hi, decide_true, Bool.true_and]
      generalize w.toNat / 16 ^ e = n
      congr 1
      interval_cases i <;> norm_num <;> omega
    rw [BitVec.getLsbD_xor, hn]
    interval_cases e <;> interval_cases i <;> simp [BitVec.getElem_sshiftRight, BitVec.getLsbD_sshiftRight]
  have hsub : nib (v - spread t) e = 8 + k e - t := by
    have hx : ∀ n < 8, n ≤ 7 := fun n h => by omega
    have ev : v.toNat = (8 + k 0) + 16 * (8 + k 1) + 256 * (8 + k 2) + 4096 * (8 + k 3) + 65536 * (8 + k 4)
        + 1048576 * (8 + k 5) + 16777216 * (8 + k 6) + 268435456 * (8 + k 7) := by
      have := v.isLt
      have h0 := hv 0 (by decide); have h1 := hv 1 (by decide); have h2 := hv 2 (by decide); have h3 := hv 3 (by decide)
      have h4 := hv 4 (by decide); have h5 := hv 5 (by decide); have h6 := hv 6 (by decide); have h7 := hv 7 (by decide)
      unfold nib at h0 h1 h2 h3 h4 h5 h6 h7
      norm_num at h0 h1 h2 h3 h4 h5 h6 h7 this
      omega
    have hz : (spread t).toNat = 286331153 * t := by
      unfold spread; interval_cases t <;> decide
    have k0 := hk 0 (by decide); have k1 := hk 1 (by decide); have k2 := hk 2 (by decide); have k3 := hk 3 (by decide)
    have k4 := hk 4 (by decide); have k5 := hk 5 (by decide); have k6 := hk 6 (by decide); have k7 := hk 7 (by decide)
    have es : (v - spread t).toNat = v.toNat - (spread t).toNat := by
      rw [BitVec.toNat_sub_of_le]; rw [BitVec.le_def, ev, hz]; omega
    have et : v.toNat - (spread t).toNat = (8 + k 0 - t) + 16 * (8 + k 1 - t) + 256 * (8 + k 2 - t) + 4096 * (8 + k 3 - t)
        + 65536 * (8 + k 4 - t) + 1048576 * (8 + k 5 - t) + 16777216 * (8 + k 6 - t) + 268435456 * (8 + k 7 - t) := by
      rw [ev, hz]; omega
    have hd : ∀ i < 8, 8 + k i - t < 16 := fun i hi => by have := hk i hi; omega
    unfold nib
    rw [es, et]
    have d0 := hd 0 (by decide); have d1 := hd 1 (by decide); have d2 := hd 2 (by decide); have d3 := hd 3 (by decide)
    have d4 := hd 4 (by decide); have d5 := hd 5 (by decide); have d6 := hd 6 (by decide); have d7 := hd 7 (by decide)
    clear hd et ev es hz k0 k1 k2 k3 k4 k5 k6 k7 hk hv key
    interval_cases e <;> norm_num <;>
      (generalize 8 + k 0 - t = n0 at *; generalize 8 + k 1 - t = n1 at *; generalize 8 + k 2 - t = n2 at *
       generalize 8 + k 3 - t = n3 at *; generalize 8 + k 4 - t = n4 at *; generalize 8 + k 5 - t = n5 at *
       generalize 8 + k 6 - t = n6 at *; generalize 8 + k 7 - t = n7 at *; omega)
  rw [key, hsub]
  exact signed_aux (k e) (hk e he) t ht

end Cert.Bits
-- ==== Proof.Codes.lean ====
module

public import proofs.«01_k».proof.Proof.Body
public import proofs.«01_k».proof.Proof.Bits
public import Idealize.ShloMosaic.Lib.Pointwise
public import Idealize.ShloMosaic.Lib.BitcastFour

/-! The dequantized weights of a block, one element at a time. -/

@[expose] public section
set_option maxRecDepth 16384
noncomputable section
namespace Cert.KernelIdeal
open Idealize.ShloMosaic Cert.Bits

variable [Facts]
open Facts₀ Facts

/-- A signed code: the code less its zero point. -/
def signed (k t : Nat) : EReal := ((((k : Int) - t : Int) : ℝ) : EReal)

omit [Facts] in
theorem shift64 : ∀ R : Fin 64, IntOp.subi (28#32) (IntOp.muli (4#32) (IntOp.andi (BitVec.ofNat 32 R.val) 7#32))
    = BitVec.ofNat 32 (28 - 4 * (R.val % 8)) := by decide +kernel

omit [Facts] in
/-- The kernel's four steps on one word, as the signed nibble of it. -/
theorem signed_word (v z s : BitVec 32) (t : Nat) (ht : t < 8) (k : Nat → Nat) (hk : ∀ e < 8, k e < 8)
    (hv : ∀ e < 8, nib v e = 8 + k e) (hz : z = spread t) (e : Nat) (he : e < 8) (hs : s = BitVec.ofNat 32 (28 - 4 * e)) :
    FloatOps.sitofp (F := Ideal) FTy.bf16 (BitVec.setWidth 4 (IntOp.shrsi ArithUnit.vector
      (IntOp.shli ArithUnit.vector (IntOp.xori (IntOp.subi v z) 2290649224#32) s) 28#32)) = signed (k e) t := by
  subst hz
  subst hs
  have h := signed_nibble v t ht k hk hv e he
  show ((BitVec.toInt _ : ℝ) : EReal) = _
  unfold signed
  rw [← h]
  unfold IntOp.shrsi IntOp.shli IntOp.xori IntOp.subi
  have e1 : (BitVec.ofNat 32 (28 - 4 * e)).toNat = 28 - 4 * e := by
    rw [BitVec.toNat_ofNat]; omega
  rw [if_pos (by decide), if_pos (by rw [e1]; omega), BitVec.shiftLeft_eq', e1]
  rfl

theorem codes64_apply (v z : IVec S8x512 32) (t : Nat) (ht : t < 8) (k : Nat → Nat) (hk : ∀ e < 8, k e < 8)
    (R : Fin 64) (j : Fin 512)
    (hv : ∀ e < 8, nib (v (ix2 ⟨R.val / 8, by omega⟩ j)) e = 8 + k e) (hz : z (ix2 ⟨R.val / 8, by omega⟩ j) = spread t) :
    codes64 (F := Ideal) v z (ix2 R j) = signed (k (R.val % 8)) t := by
  pointwise [codes64]
  exact signed_word _ _ _ t ht k hk hv hz (R.val % 8) (by omega) (shift64 R)

theorem codes32_apply (v z : IVec S4x512 32) (t : Nat) (ht : t < 8) (k : Nat → Nat) (hk : ∀ e < 8, k e < 8)
    (R : Fin 32) (j : Fin 512)
    (hv : ∀ e < 8, nib (v (ix2 ⟨R.val / 8, by omega⟩ j)) e = 8 + k e) (hz : z (ix2 ⟨R.val / 8, by omega⟩ j) = spread t) :
    codes32 (F := Ideal) v z (ix2 R j) = signed (k (R.val % 8)) t := by
  pointwise [codes32]
  exact signed_word _ _ _ t ht k hk hv hz (R.val % 8) (by omega) (shift64 ⟨R.val, by omega⟩)

theorem fields8_nib (a b c : IVec S8x512 32) (f : Fin 4) (r : Fin 8) (j : Fin 512) (e : Nat) (he : e < 8) :
    nib (fields8 a b c f (ix2 r j)) e = 8 + code (a (ix2 r j)) (b (ix2 r j)) (c (ix2 r j)) (4 * e + f.val) := by
  rw [← nib_field _ _ _ f e he]
  fin_cases f <;> rfl

theorem fields4_nib (a b c : IVec S4x512 32) (f : Fin 4) (r : Fin 4) (j : Fin 512) (e : Nat) (he : e < 8) :
    nib (fields4 a b c f (ix2 r j)) e = 8 + code (a (ix2 r j)) (b (ix2 r j)) (c (ix2 r j)) (4 * e + f.val) := by
  rw [← nib_field _ _ _ f e he]
  fin_cases f <;> rfl

/-! ## The rows of a block -/

/-- A stack of equal pieces read at a row. -/
theorem stack16 (f : Fin 16 → FVec Ideal S16x512 .bf16) (h) (R : Fin 256) (j : Fin 512) :
    concatenate S256x512 0 (List.ofFn fun n : Fin 16 => (⟨S16x512, f n⟩ : (s : Shape) × (s.Idx → EReal))) h (ix2 R j)
      = f ⟨R.val / 16, by omega⟩ (ix2 ⟨R.val % 16, by omega⟩ j) := by
  refine concatenate_ofFn_apply 0 f h rfl 16 rfl (ix2 R j) ⟨R.val / 16, by omega⟩ rfl (ix2 ⟨R.val % 16, by omega⟩ j) rfl ?_
  intro b hb
  fin_cases b
  · exact absurd rfl hb
  · rfl

theorem stack8 (f : Fin 8 → FVec Ideal S16x512 .bf16) (h) (R : Fin 128) (j : Fin 512) :
    concatenate S128x512 0 (List.ofFn fun n : Fin 8 => (⟨S16x512, f n⟩ : (s : Shape) × (s.Idx → EReal))) h (ix2 R j)
      = f ⟨R.val / 16, by omega⟩ (ix2 ⟨R.val % 16, by omega⟩ j) := by
  refine concatenate_ofFn_apply 0 f h rfl 16 rfl (ix2 R j) ⟨R.val / 16, by omega⟩ rfl (ix2 ⟨R.val % 16, by omega⟩ j) rfl ?_
  intro b hb
  fin_cases b
  · exact absurd rfl hb
  · rfl

/-- Sixteen rows of codes times a group's scales, read at a row. -/
theorem slice64 (q : FVec Ideal S64x512 .bf16) (s : FVec Ideal S16x512 .bf16) (o : Nat) (h) (R : Fin 16) (j : Fin 512) (ho : o + 16 ≤ 64) :
    mulf (extractStridedSlice S16x512 ![o, 0] q h) s (ix2 R j) = q (ix2 ⟨o + R.val, by omega⟩ j) * s (ix2 R j) := by
  pointwise

theorem slice32 (q : FVec Ideal S32x512 .bf16) (s : FVec Ideal S16x512 .bf16) (o : Nat) (h) (R : Fin 16) (j : Fin 512) (ho : o + 16 ≤ 32) :
    mulf (extractStridedSlice S16x512 ![o, 0] q h) s (ix2 R j) = q (ix2 ⟨o + R.val, by omega⟩ j) * s (ix2 R j) := by
  pointwise

theorem weights_rows (a b c : IVec S8x512 32) (z : IVec S8x512 32) (s0 s1 : FVec Ideal S16x512 .bf16) (R : Fin 256) (j : Fin 512) :
    weights a b c z s0 s1 (ix2 R j)
      = codes64 (F := Ideal) (fields8 a b c ⟨R.val / 64, by omega⟩) z (ix2 ⟨R.val % 64, by omega⟩ j)
        * (if R.val % 64 < 32 then s0 else s1) (ix2 ⟨R.val % 16, by omega⟩ j) := by
  have key := stack16 ![
    mulf (extractStridedSlice S16x512 ![0, 0] (codes64 (F := Ideal) (fields8 a b c 0) z) slices_S64x512_o0_0_S16x512) s0,
    mulf (extractStridedSlice S16x512 ![16, 0] (codes64 (F := Ideal) (fields8 a b c 0) z) slices_S64x512_o16_0_S16x512) s0,
    mulf (extractStridedSlice S16x512 ![32, 0] (codes64 (F := Ideal) (fields8 a b c 0) z) slices_S64x512_o32_0_S16x512) s1,
    mulf (extractStridedSlice S16x512 ![48, 0] (codes64 (F := Ideal) (fields8 a b c 0) z) slices_S64x512_o48_0_S16x512) s1,
    mulf (extractStridedSlice S16x512 ![0, 0] (codes64 (F := Ideal) (fields8 a b c 1) z) slices_S64x512_o0_0_S16x512) s0,
    mulf (extractStridedSlice S16x512 ![16, 0] (codes64 (F := Ideal) (fields8 a b c 1) z) slices_S64x512_o16_0_S16x512) s0,
    mulf (extractStridedSlice S16x512 ![32, 0] (codes64 (F := Ideal) (fields8 a b c 1) z) slices_S64x512_o32_0_S16x512) s1,
    mulf (extractStridedSlice S16x512 ![48, 0] (codes64 (F := Ideal) (fields8 a b c 1) z) slices_S64x512_o48_0_S16x512) s1,
    mulf (extractStridedSlice S16x512 ![0, 0] (codes64 (F := Ideal) (fields8 a b c 2) z) slices_S64x512_o0_0_S16x512) s0,
    mulf (extractStridedSlice S16x512 ![16, 0] (codes64 (F := Ideal) (fields8 a b c 2) z) slices_S64x512_o16_0_S16x512) s0,
    mulf (extractStridedSlice S16x512 ![32, 0] (codes64 (F := Ideal) (fields8 a b c 2) z) slices_S64x512_o32_0_S16x512) s1,
    mulf (extractStridedSlice S16x512 ![48, 0] (codes64 (F := Ideal) (fields8 a b c 2) z) slices_S64x512_o48_0_S16x512) s1,
    mulf (extractStridedSlice S16x512 ![0, 0] (codes64 (F := Ideal) (fields8 a b c 3) z) slices_S64x512_o0_0_S16x512) s0,
    mulf (extractStridedSlice S16x512 ![16, 0] (codes64 (F := Ideal) (fields8 a b c 3) z) slices_S64x512_o16_0_S16x512) s0,
    mulf (extractStridedSlice S16x512 ![32, 0] (codes64 (F := Ideal) (fields8 a b c 3) z) slices_S64x512_o32_0_S16x512) s1,
    mulf (extractStridedSlice S16x512 ![48, 0] (codes64 (F := Ideal) (fields8 a b c 3) z) slices_S64x512_o48_0_S16x512) s1]
    concatenates_S16x512_S16x512_S16x512_S16x512_S16x512_S16x512_S16x512_S16x512_S16x512_S16x512_S16x512_S16x512_S16x512_S16x512_S16x512_S16x512_S256x512_d0 R j
  refine Eq.trans ?_ (key.trans ?_)
  · rfl
  · obtain ⟨n, q, hn, hq, rfl⟩ : ∃ (n q : Nat) (hn : n < 16) (hq : q < 16), R = ⟨16 * n + q, by omega⟩ :=
      ⟨R.val / 16, R.val % 16, by omega, by omega, Fin.ext (by show R.val = 16 * (R.val / 16) + R.val % 16; omega)⟩
    have e0 : (⟨(16 * n + q) / 16, by omega⟩ : Fin 16) = ⟨n, hn⟩ := Fin.ext (by show (16 * n + q) / 16 = n; omega)
    have e1 : (⟨(16 * n + q) % 16, by omega⟩ : Fin 16) = ⟨q, hq⟩ := Fin.ext (by show (16 * n + q) % 16 = q; omega)
    have e2 : (⟨(16 * n + q) / 64, by omega⟩ : Fin 4) = ⟨n / 4, by omega⟩ := Fin.ext (by show (16 * n + q) / 64 = n / 4; omega)
    have e3 : (⟨(16 * n + q) % 64, by omega⟩ : Fin 64) = ⟨16 * (n % 4) + q, by omega⟩ :=
      Fin.ext (by show (16 * n + q) % 64 = 16 * (n % 4) + q; omega)
    have e4 : (16 * n + q) % 64 < 32 ↔ n % 4 < 2 := by omega
    show _ = _ * (if (16 * n + q) % 64 < 32 then s0 else s1) _
    simp only [e0, e1, e2, e3, e4]
    interval_cases n <;> exact slice64 _ _ _ _ ⟨q, hq⟩ j (by decide)

theorem weightsHalf_rows (a b c : IVec S4x512 32) (z : IVec S1x512 32) (s : FVec Ideal S16x512 .bf16) (R : Fin 128) (j : Fin 512) :
    weightsHalf a b c z s (ix2 R j)
      = codes32 (F := Ideal) (fields4 a b c ⟨R.val / 32, by omega⟩) (broadcastTo S4x512 (shapeCast S1x512 z shapeCasts_S1x512_S1x512) broadcasts_S1x512_S4x512)
          (ix2 ⟨R.val % 32, by omega⟩ j)
        * s (ix2 ⟨R.val % 16, by omega⟩ j) := by
  have key := stack8 ![
    mulf (extractStridedSlice S16x512 ![0, 0] (codes32 (F := Ideal) (fields4 a b c 0) (broadcastTo S4x512 (shapeCast S1x512 z shapeCasts_S1x512_S1x512) broadcasts_S1x512_S4x512)) slices_S32x512_o0_0_S16x512) s,
    mulf (extractStridedSlice S16x512 ![16, 0] (codes32 (F := Ideal) (fields4 a b c 0) (broadcastTo S4x512 (shapeCast S1x512 z shapeCasts_S1x512_S1x512) broadcasts_S1x512_S4x512)) slices_S32x512_o16_0_S16x512) s,
    mulf (extractStridedSlice S16x512 ![0, 0] (codes32 (F := Ideal) (fields4 a b c 1) (broadcastTo S4x512 (shapeCast S1x512 z shapeCasts_S1x512_S1x512) broadcasts_S1x512_S4x512)) slices_S32x512_o0_0_S16x512) s,
    mulf (extractStridedSlice S16x512 ![16, 0] (codes32 (F := Ideal) (fields4 a b c 1) (broadcastTo S4x512 (shapeCast S1x512 z shapeCasts_S1x512_S1x512) broadcasts_S1x512_S4x512)) slices_S32x512_o16_0_S16x512) s,
    mulf (extractStridedSlice S16x512 ![0, 0] (codes32 (F := Ideal) (fields4 a b c 2) (broadcastTo S4x512 (shapeCast S1x512 z shapeCasts_S1x512_S1x512) broadcasts_S1x512_S4x512)) slices_S32x512_o0_0_S16x512) s,
    mulf (extractStridedSlice S16x512 ![16, 0] (codes32 (F := Ideal) (fields4 a b c 2) (broadcastTo S4x512 (shapeCast S1x512 z shapeCasts_S1x512_S1x512) broadcasts_S1x512_S4x512)) slices_S32x512_o16_0_S16x512) s,
    mulf (extractStridedSlice S16x512 ![0, 0] (codes32 (F := Ideal) (fields4 a b c 3) (broadcastTo S4x512 (shapeCast S1x512 z shapeCasts_S1x512_S1x512) broadcasts_S1x512_S4x512)) slices_S32x512_o0_0_S16x512) s,
    mulf (extractStridedSlice S16x512 ![16, 0] (codes32 (F := Ideal) (fields4 a b c 3) (broadcastTo S4x512 (shapeCast S1x512 z shapeCasts_S1x512_S1x512) broadcasts_S1x512_S4x512)) slices_S32x512_o16_0_S16x512) s]
    concatenates_S16x512_S16x512_S16x512_S16x512_S16x512_S16x512_S16x512_S16x512_S128x512_d0 R j
  refine Eq.trans ?_ (key.trans ?_)
  · rfl
  · obtain ⟨n, q, hn, hq, rfl⟩ : ∃ (n q : Nat) (hn : n < 8) (hq : q < 16), R = ⟨16 * n + q, by omega⟩ :=
      ⟨R.val / 16, R.val % 16, by omega, by omega, Fin.ext (by show R.val = 16 * (R.val / 16) + R.val % 16; omega)⟩
    have e0 : (⟨(16 * n + q) / 16, by omega⟩ : Fin 8) = ⟨n, hn⟩ := Fin.ext (by show (16 * n + q) / 16 = n; omega)
    have e1 : (⟨(16 * n + q) % 16, by omega⟩ : Fin 16) = ⟨q, hq⟩ := Fin.ext (by show (16 * n + q) % 16 = q; omega)
    have e2 : (⟨(16 * n + q) / 32, by omega⟩ : Fin 4) = ⟨n / 2, by omega⟩ := Fin.ext (by show (16 * n + q) / 32 = n / 2; omega)
    have e3 : (⟨(16 * n + q) % 32, by omega⟩ : Fin 32) = ⟨16 * (n % 2) + q, by omega⟩ :=
      Fin.ext (by show (16 * n + q) % 32 = 16 * (n % 2) + q; omega)
    simp only [e0, e1, e2, e3]
    interval_cases n <;> exact slice32 _ _ _ _ ⟨q, hq⟩ j (by decide)

/-! ## Weights from bytes -/

/-- The code at a bit of a word made of four byte rows is the code at that bit of its byte. -/
theorem code_bytes {R r : Nat} (a b c : (⟨2, ![R, 512]⟩ : Shape).Idx → BitVec 8) (h : (⟨2, ![R, 512]⟩ : Shape).Bitcasts 8 ⟨2, ![r, 512]⟩ 32)
    (w : Fin r) (j : Fin 512) (q : Nat) (hq : q < 32) (p : Fin R) (hp : p.val = 4 * w.val + q / 8) :
    code (bitcast ⟨2, ![r, 512]⟩ 32 a h (ix2 w j)) (bitcast ⟨2, ![r, 512]⟩ 32 b h (ix2 w j)) (bitcast ⟨2, ![r, 512]⟩ 32 c h (ix2 w j)) q
      = code (a (ix2 p j)) (b (ix2 p j)) (c (ix2 p j)) (q % 8) := by
  have k := fun x : (⟨2, ![R, 512]⟩ : Shape).Idx → BitVec 8 => bitcast_8_32_getLsbD_ix2 x h w j q hq p hp
  unfold code bit
  exact congrArg₂ (· + ·) (congrArg₂ (· + ·) (congrArg Bool.toNat (k a)) (congrArg (2 * Bool.toNat ·) (k b))) (congrArg (4 * Bool.toNat ·) (k c))

theorem weights_apply (a b c : Vec Ideal S32x512 .i8) (z : IVec S8x512 32) (s0 s1 : FVec Ideal S16x512 .bf16) (t : Nat) (ht : t < 8)
    (R : Fin 256) (j : Fin 512) (hz : z (ix2 ⟨R.val % 64 / 8, by omega⟩ j) = spread t) (p : Fin 32) (hp : p.val = (4 * (R.val % 64) + R.val / 64) / 8) :
    weights (bitcast S8x512 32 a bitcasts_S32x512_w8_S8x512_w32) (bitcast S8x512 32 b bitcasts_S32x512_w8_S8x512_w32)
        (bitcast S8x512 32 c bitcasts_S32x512_w8_S8x512_w32) z s0 s1 (ix2 R j)
      = signed (code (a (ix2 p j)) (b (ix2 p j)) (c (ix2 p j)) ((4 * (R.val % 64) + R.val / 64) % 8)) t
        * (if R.val % 64 < 32 then s0 else s1) (ix2 ⟨R.val % 16, by omega⟩ j) := by
  have e' : (4 * (R.val % 64) + R.val / 64) % 8 = (4 * (R.val % 64 % 8) + R.val / 64) % 8 := by omega
  have e : code (bitcast S8x512 32 a bitcasts_S32x512_w8_S8x512_w32 (ix2 ⟨R.val % 64 / 8, by omega⟩ j)) (bitcast S8x512 32 b bitcasts_S32x512_w8_S8x512_w32 (ix2 ⟨R.val % 64 / 8, by omega⟩ j)) (bitcast S8x512 32 c bitcasts_S32x512_w8_S8x512_w32 (ix2 ⟨R.val % 64 / 8, by omega⟩ j))
      (4 * (R.val % 64 % 8) + R.val / 64) = code (a (ix2 p j)) (b (ix2 p j)) (c (ix2 p j)) ((4 * (R.val % 64 % 8) + R.val / 64) % 8) :=
    code_bytes a b c bitcasts_S32x512_w8_S8x512_w32 ⟨R.val % 64 / 8, by omega⟩ j _ (by omega) p (by show p.val = 4 * (R.val % 64 / 8) + _; omega)
  rw [e', ← e]
  generalize bitcast S8x512 32 a bitcasts_S32x512_w8_S8x512_w32 = a'
  generalize bitcast S8x512 32 b bitcasts_S32x512_w8_S8x512_w32 = b'
  generalize bitcast S8x512 32 c bitcasts_S32x512_w8_S8x512_w32 = c'
  rw [weights_rows]
  congr 1
  exact codes64_apply _ _ t ht (fun e => code (a' (ix2 ⟨R.val % 64 / 8, by omega⟩ j)) (b' (ix2 ⟨R.val % 64 / 8, by omega⟩ j)) (c' (ix2 ⟨R.val % 64 / 8, by omega⟩ j)) (4 * e + R.val / 64)) (fun e _ => code_lt _ _ _ _) ⟨R.val % 64, by omega⟩ j
    (fun e he => fields8_nib _ _ _ ⟨R.val / 64, by omega⟩ ⟨R.val % 64 / 8, by omega⟩ j e he) hz

theorem weightsHalf_apply (a b c : Vec Ideal S16x512 .i8) (z : IVec S1x512 32) (s : FVec Ideal S16x512 .bf16) (t : Nat) (ht : t < 8)
    (R : Fin 128) (j : Fin 512) (hz : z (ix2 0 j) = spread t) (p : Fin 16) (hp : p.val = (4 * (R.val % 32) + R.val / 32) / 8) :
    weightsHalf (bitcast S4x512 32 a bitcasts_S16x512_w8_S4x512_w32) (bitcast S4x512 32 b bitcasts_S16x512_w8_S4x512_w32)
        (bitcast S4x512 32 c bitcasts_S16x512_w8_S4x512_w32) z s (ix2 R j)
      = signed (code (a (ix2 p j)) (b (ix2 p j)) (c (ix2 p j)) ((4 * (R.val % 32) + R.val / 32) % 8)) t
        * s (ix2 ⟨R.val % 16, by omega⟩ j) := by
  have e' : (4 * (R.val % 32) + R.val / 32) % 8 = (4 * (R.val % 32 % 8) + R.val / 32) % 8 := by omega
  have e : code (bitcast S4x512 32 a bitcasts_S16x512_w8_S4x512_w32 (ix2 ⟨R.val % 32 / 8, by omega⟩ j)) (bitcast S4x512 32 b bitcasts_S16x512_w8_S4x512_w32 (ix2 ⟨R.val % 32 / 8, by omega⟩ j)) (bitcast S4x512 32 c bitcasts_S16x512_w8_S4x512_w32 (ix2 ⟨R.val % 32 / 8, by omega⟩ j))
      (4 * (R.val % 32 % 8) + R.val / 32) = code (a (ix2 p j)) (b (ix2 p j)) (c (ix2 p j)) ((4 * (R.val % 32 % 8) + R.val / 32) % 8) :=
    code_bytes a b c bitcasts_S16x512_w8_S4x512_w32 ⟨R.val % 32 / 8, by omega⟩ j _ (by omega) p (by show p.val = 4 * (R.val % 32 / 8) + _; omega)
  rw [e', ← e]
  generalize bitcast S4x512 32 a bitcasts_S16x512_w8_S4x512_w32 = a'
  generalize bitcast S4x512 32 b bitcasts_S16x512_w8_S4x512_w32 = b'
  generalize bitcast S4x512 32 c bitcasts_S16x512_w8_S4x512_w32 = c'
  rw [weightsHalf_rows]
  congr 1
  exact codes32_apply _ _ t ht (fun e => code (a' (ix2 ⟨R.val % 32 / 8, by omega⟩ j)) (b' (ix2 ⟨R.val % 32 / 8, by omega⟩ j)) (c' (ix2 ⟨R.val % 32 / 8, by omega⟩ j)) (4 * e + R.val / 32)) (fun e _ => code_lt _ _ _ _) ⟨R.val % 32, by omega⟩ j
    (fun e he => fields4_nib _ _ _ ⟨R.val / 32, by omega⟩ ⟨R.val % 32 / 8, by omega⟩ j e he) (by pointwise; exact hz)

end Cert.KernelIdeal
-- ==== Proof.First.lean ====
module

public import proofs.«01_k».proof.Proof.Steps
public import proofs.«01_k».proof.Proof.Codes

/-! What the first grid point leaves in the scratch, and the scales' words, one element at a time. -/

@[expose] public section
set_option maxRecDepth 16384
noncomputable section
namespace Cert.KernelIdeal
open Idealize.ShloMosaic Cert.Bits
variable [Facts]
open Facts₀ Facts

/-! ## Windows at an index -/

omit [Facts] in
theorem window_at {R C : Nat} {α : Type} (X : (⟨2, ![R, C]⟩ : Shape).Idx → α) (r0 c0 A B : Nat) (inb) (a : Fin A) (b : Fin B)
    (p : Fin R) (q : Fin C) (hp : p.val = r0 + a.val) (hq : q.val = c0 + b.val) :
    VecWindow.window X ![r0, c0] ![A, B] inb (ix2 a b) = X (ix2 p q) := by
  refine congrArg X (funext fun d => Fin.ext ?_)
  match d with
  | ⟨0, _⟩ => show r0 + 1 * a.val = p.val; omega
  | ⟨1, _⟩ => show c0 + 1 * b.val = q.val; omega

omit [Facts] in
theorem window_at3 {R C D : Nat} {α : Type} (X : (⟨3, ![R, C, D]⟩ : Shape).Idx → α) (r0 A B E : Nat) (inb) (a : Fin A) (b : Fin B) (e : Fin E)
    (p : Fin R) (q : Fin C) (l : Fin D) (hp : p.val = r0 + a.val) (hq : q.val = b.val) (hl : l.val = e.val) :
    VecWindow.window X ![r0, 0, 0] ![A, B, E] inb (ix3 a b e) = X (ix3 p q l) := by
  refine congrArg X (funext fun d => Fin.ext ?_)
  match d with
  | ⟨0, _⟩ => show r0 + 1 * a.val = p.val; omega
  | ⟨1, _⟩ => show 0 + 1 * b.val = q.val; omega
  | ⟨2, _⟩ => show 0 + 1 * e.val = l.val; omega

omit [Facts] in
/-- A band of columns put into an array, read at a column of the band. -/
theorem put_in {R C D : Nat} {α : Type} (X : (⟨2, ![R, C]⟩ : Shape).Idx → α) (c0 : Nat) (w : (⟨2, ![R, D]⟩ : Shape).Idx → α)
    (g : Fin R) (n : Fin C) (q : Fin D) (hq : n.val = c0 + q.val) :
    VecWindow.put X ![0, c0] ![R, D] w (ix2 g n) = w (ix2 g q) := by
  unfold VecWindow.put
  rw [dif_pos (fun d => match d with
    | ⟨0, _⟩ => ⟨Nat.zero_le _, by show g.val < 0 + R; have := g.isLt; omega⟩
    | ⟨1, _⟩ => ⟨by show c0 ≤ n.val; omega, by show n.val < c0 + D; have := q.isLt; omega⟩)]
  refine congrArg w (funext fun d => Fin.ext ?_)
  match d with
  | ⟨0, _⟩ => show g.val - 0 = g.val; omega
  | ⟨1, _⟩ => show n.val - c0 = q.val; omega

omit [Facts] in
/-- … and at a column outside it. -/
theorem put_out {R C D : Nat} {α : Type} (X : (⟨2, ![R, C]⟩ : Shape).Idx → α) (c0 : Nat) (w : (⟨2, ![R, D]⟩ : Shape).Idx → α)
    (g : Fin R) (n : Fin C) (hn : n.val < c0 ∨ c0 + D ≤ n.val) :
    VecWindow.put X ![0, c0] ![R, D] w (ix2 g n) = X (ix2 g n) := by
  unfold VecWindow.put
  refine dif_neg fun h => ?_
  have h1 : c0 ≤ n.val ∧ n.val < c0 + D := h (1 : Fin 2)
  omega

/-! ## The permuted input -/

theorem permSrc256_apply (a j : Fin 256) : permSrc256 (ix2 a j) = BitVec.ofNat 32 (4 * (j.val % 64) + j.val / 64) := by
  pointwise [permSrc256]
  revert j
  decide +kernel

theorem permSrc128_apply (a j : Fin 128) : permSrc128 (ix2 a j) = BitVec.ofNat 32 (4 * (j.val % 32) + j.val / 32) := by
  pointwise [permSrc128]
  revert j
  decide +kernel

omit [Facts] in
/-- A sum that a column of zeros and one one picks a single term of. -/
theorem pick {n : Nat} (hn : n < 2 ^ 32) (f : Fin n → EReal) (k : Fin n) :
    (∑ x, Scalar.select (IntOp.cmpi CmpIPredicate.eq (BitVec.ofNat 32 x.val) (BitVec.ofNat 32 k.val)) (f x) 0) = f k := by
  rw [Finset.sum_eq_single k]
  · unfold Scalar.select IntOp.cmpi
    simp
  · intro b _ hb
    have : (BitVec.ofNat 32 b.val) ≠ BitVec.ofNat 32 k.val := fun h => hb (Fin.ext (by
      have := congrArg BitVec.toNat h
      rw [BitVec.toNat_ofNat, BitVec.toNat_ofNat, Nat.mod_eq_of_lt (by omega), Nat.mod_eq_of_lt (by omega)] at this
      exact this))
    unfold Scalar.select IntOp.cmpi
    simp [beq_eq_false_iff_ne.mpr this]
  · intro h; exact absurd (Finset.mem_univ _) h

theorem permuted256_apply (x : Vec Ideal S96x256 .bf16) (m : Fin 96) (j k : Fin 256) (hk : k.val = 4 * (j.val % 64) + j.val / 64) :
    permuted256 x (ix2 m j) = x (ix2 m k) := by
  pointwise [permuted256, perm256]
  simp only [permSrc256_apply, ← hk]
  exact pick (by decide) (fun q => x (ix2 m q)) k

theorem permuted128_apply (x : Vec Ideal S96x128 .bf16) (m : Fin 96) (j k : Fin 128) (hk : k.val = 4 * (j.val % 32) + j.val / 32) :
    permuted128 x (ix2 m j) = x (ix2 m k) := by
  pointwise [permuted128, perm128]
  simp only [permSrc128_apply, ← hk]
  exact pick (by decide) (fun q => x (ix2 m q)) k

/-- Where column `n` of the permuted input comes from. -/
def srcCol (n : Nat) : Nat :=
  if n < 8448 then 256 * (n / 256) + (4 * (n % 256 % 64) + n % 256 / 64) else 8448 + (4 * ((n - 8448) % 32) + (n - 8448) / 32)

omit [Facts] in
theorem srcCol_lt {n : Nat} (h : n < 8576) : srcCol n < 8576 := by
  unfold srcCol; split <;> omega

theorem permVal_apply (X1 : Vec Ideal S96x8576 .bf16) : (n r : Nat) → (h : r + n ≤ 33) → (X8 : Vec Ideal S96x8576 .bf16) → (m : Fin 96) →
    (k : Fin 8576) → permVal X1 n r h X8 (ix2 m k)
      = if 256 * r ≤ k.val ∧ k.val < 256 * (r + n) then X1 (ix2 m ⟨srcCol k.val, srcCol_lt k.isLt⟩) else X8 (ix2 m k)
  | 0, r, h, X8, m, k => by rw [if_neg (by omega)]; rfl
  | n + 1, r, h, X8, m, k => by
    show permVal X1 n (r + 1) _ _ (ix2 m k) = _
    rw [permVal_apply X1 n (r + 1) _ _ m k]
    by_cases h1 : 256 * (r + 1) ≤ k.val ∧ k.val < 256 * (r + 1 + n)
    · rw [if_pos h1, if_pos (by omega)]
    · rw [if_neg h1]
      by_cases h2 : 256 * r ≤ k.val ∧ k.val < 256 * (r + (n + 1))
      · rw [if_pos h2]
        have hs : srcCol k.val = 256 * r + (4 * ((k.val - 256 * r) % 64) + (k.val - 256 * r) / 64) := by
          unfold srcCol; rw [if_pos (by omega)]; omega
        refine (put_in _ (256 * r) _ m k ⟨k.val - 256 * r, by omega⟩ (by show k.val = 256 * r + (k.val - 256 * r); omega)).trans ?_
        refine (permuted256_apply _ m _ ⟨4 * ((k.val - 256 * r) % 64) + (k.val - 256 * r) / 64, by omega⟩ rfl).trans ?_
        exact window_at X1 0 (256 * r) 96 256 _ m _ m _ (by omega) hs
      · rw [if_neg h2]
        exact put_out _ (256 * r) _ m k (by omega)

theorem half_at (X1 : Vec Ideal S96x8576 .bf16) (o : Nat) (inb) (m : Fin 96) (q : Fin 128) (l : Fin 8576)
    (hl : l.val = o + (4 * (q.val % 32) + q.val / 32)) :
    permuted128 (VecWindow.window X1 ![0, o] S96x128.size inb : Vec Ideal S96x128 .bf16) (ix2 m q) = X1 (ix2 m l) :=
  (permuted128_apply _ m q ⟨4 * (q.val % 32) + q.val / 32, by omega⟩ rfl).trans (window_at X1 0 o 96 128 _ m _ m _ (by omega) hl)

theorem permAll_apply (X1 X8 : Vec Ideal S96x8576 .bf16) (m : Fin 96) (k : Fin 8576) :
    permAll X1 X8 (ix2 m k) = X1 (ix2 m ⟨srcCol k.val, srcCol_lt k.isLt⟩) := by
  unfold permAll
  by_cases h : k.val < 8448
  · refine (put_out _ 8448 _ m k (.inl h)).trans ?_
    rw [permVal_apply, if_pos (by omega)]
  · have hs : srcCol k.val = 8448 + (4 * ((k.val - 8448) % 32) + (k.val - 8448) / 32) := by unfold srcCol; rw [if_neg h]
    refine (put_in _ 8448 _ m k ⟨k.val - 8448, by omega⟩ (by show k.val = 8448 + (k.val - 8448); omega)).trans ?_
    exact half_at X1 8448 _ m _ _ hs

/-! ## The unpacked zero points -/

/-- The zero point of a group at a column: three bits of a packed word. -/
def zeroOf (zp : IVec S67x909 32) (g : Fin 67) (n : Nat) : Nat :=
  (zp (ix2 g ⟨n % 909, Nat.mod_lt _ (by decide)⟩)).toNat / 2 ^ (3 * (n / 909)) % 8

omit [Facts] in
theorem zeroOf_lt (zp : IVec S67x909 32) (g : Fin 67) (n : Nat) : zeroOf zp g n < 8 := Nat.mod_lt _ (by decide)

omit [Facts] in
theorem mask7 (x : BitVec 32) (s : Nat) : (x >>> s) &&& 7#32 = BitVec.ofNat 32 (x.toNat / 2 ^ s % 8) := by
  apply BitVec.eq_of_toNat_eq
  rw [BitVec.toNat_and, BitVec.toNat_ushiftRight, Nat.shiftRight_eq_div_pow]
  show x.toNat / 2 ^ s &&& (2 ^ 3 - 1) = _
  rw [Nat.and_two_pow_sub_one_eq_mod, BitVec.toNat_ofNat]
  omega

omit [Facts] in
theorem zeroField_apply (zp : IVec S67x909 32) (f : Nat) (hf : f < 10) (g : Fin 67) (q : Fin 909) (n : Nat) (hn : n = 909 * f + q.val) :
    zeroField zp f (ix2 g q) = spread (zeroOf zp g n) := by
  have e1 : n / 909 = f := by omega
  have e2 : (⟨n % 909, Nat.mod_lt _ (by decide)⟩ : Fin 909) = q := Fin.ext (by show n % 909 = q.val; omega)
  unfold zeroOf spread
  rw [e1, e2, ← mask7]
  show IntOp.muli (IntOp.andi (IntOp.shrui .vector (zp (ix2 g q)) (BitVec.ofNat 32 (3 * f))) 7#32) 286331153#32 = _
  unfold IntOp.muli IntOp.andi IntOp.shrui
  have e3 : (BitVec.ofNat 32 (3 * f)).toNat = 3 * f := by rw [BitVec.toNat_ofNat]; omega
  rw [if_pos (by rw [e3]; omega), BitVec.ushiftRight_eq', e3]

theorem zeroVal_apply (zp : IVec S67x909 32) : (n f : Nat) → (h : f + n ≤ 9) → (X9 : Vec Ideal S67x9216 .i32) → (g : Fin 67) →
    (k : Fin 9216) → zeroVal (F := Ideal) zp n f h X9 (ix2 g k)
      = if 909 * f ≤ k.val ∧ k.val < 909 * (f + n) then spread (zeroOf zp g k.val) else X9 (ix2 g k)
  | 0, f, h, X9, g, k => by rw [if_neg (by omega)]; rfl
  | n + 1, f, h, X9, g, k => by
    show zeroVal (F := Ideal) zp n (f + 1) _ _ (ix2 g k) = _
    rw [zeroVal_apply zp n (f + 1) _ _ g k]
    by_cases h1 : 909 * (f + 1) ≤ k.val ∧ k.val < 909 * (f + 1 + n)
    · rw [if_pos h1, if_pos (by omega)]
    · rw [if_neg h1]
      by_cases h2 : 909 * f ≤ k.val ∧ k.val < 909 * (f + (n + 1))
      · rw [if_pos h2]
        refine (put_in _ (909 * f) _ g k ⟨k.val - 909 * f, by omega⟩ (by show k.val = 909 * f + (k.val - 909 * f); omega)).trans ?_
        refine Eq.trans ?_ (zeroField_apply zp f (by omega) g ⟨k.val - 909 * f, by omega⟩ k.val (by show k.val = 909 * f + (k.val - 909 * f); omega))
        pointwise
      · rw [if_neg h2]
        exact put_out _ (909 * f) _ g k (by omega)

theorem zeroAll_apply (X6 : Vec Ideal S67x909 .i32) (X9 : Vec Ideal S67x9216 .i32) (g : Fin 67) (k : Fin 9216) (hk : k.val < 9088) :
    zeroAll X6 X9 (ix2 g k) = spread (zeroOf X6 g k.val) := by
  unfold zeroAll
  by_cases h : k.val < 8181
  · refine (put_out _ 8181 _ g k (.inl h)).trans ?_
    rw [zeroVal_apply, if_pos (by omega)]
  · refine (put_in _ 8181 _ g k ⟨k.val - 8181, by omega⟩ (by show k.val = 8181 + (k.val - 8181); omega)).trans ?_
    refine Eq.trans ?_ (zeroField_apply X6 9 (by omega) g ⟨k.val - 8181, by omega⟩ k.val (by show k.val = 909 * 9 + (k.val - 8181); omega))
    pointwise

/-! ## The scales' words -/

theorem scaleWords_apply (s : Vec Ideal S67x512 .bf16) (g : Fin 67) (p : Fin 2) (j : Fin 512) : scaleWords s (ix3 g p j) = s (ix2 g j) := by
  pointwise [scaleWords]
  exact ite_self _

/-- Sixteen rows of a group's scales, all the same. -/
theorem scale16_apply (s : Vec Ideal S67x512 .bf16) (o : Nat) (inb) (g : Fin 67) (hg : g.val = o) (q : Fin 16) (j : Fin 512) :
    scale16 (VecWindow.window (scaleWords s) ![o, 0, 0] S1x2x512.size inb : Vec Ideal S1x2x512 .bf16) (ix2 q j) = s (ix2 g j) := by
  have h : ∀ p : Fin 2, (VecWindow.window (scaleWords s) ![o, 0, 0] S1x2x512.size inb : Vec Ideal S1x2x512 .bf16) (ix3 0 p j) = s (ix2 g j) := fun p =>
    (window_at3 (scaleWords s) o 1 2 512 inb 0 p j g p j (by omega) rfl rfl).trans (scaleWords_apply s g p j)
  generalize (VecWindow.window (scaleWords s) ![o, 0, 0] S1x2x512.size inb : Vec Ideal S1x2x512 .bf16) = raw at h
  pointwise [scale16]
  rw [h 0, h 1]
  exact ite_self _

/-- The eight rows of zero points: the first four of one group, the last four of the next. -/
theorem zeros8_apply (z0 z1 : IVec S1x512 32) (w : Fin 8) (j : Fin 512) :
    zeros8 z0 z1 (ix2 w j) = if w.val < 4 then z0 (ix2 0 j) else z1 (ix2 0 j) := by
  pointwise [zeros8]
  fin_cases w <;> rfl

end Cert.KernelIdeal
-- ==== Proof.Value.lean ====
module

public import proofs.«01_k».proof.Proof.First
public import Mathlib.Algebra.BigOperators.Fin

/-! The value the kernel stores at a grid point, one element at a time: a sum over the whole inner dimension. -/

@[expose] public section
set_option maxRecDepth 16384
noncomputable section
namespace Cert.KernelIdeal
open Idealize.ShloMosaic Cert.Bits
variable [Facts]
open Facts₀ Facts

/-- Term `k` of one element of the product: the input times the signed code times the scale. -/
def term (X1 : Vec Ideal S96x8576 .bf16) (X2 X3 X4 : Vec Ideal S1072x512 .i8) (X5 : Vec Ideal S67x512 .bf16) (zw : Fin 67 → Nat)
    (m : Fin 96) (j : Fin 512) (k : Nat) : EReal :=
  if h : k < 8576 then
    X1 (ix2 m ⟨k, h⟩) * (signed (code (X2 (ix2 ⟨k / 8, by omega⟩ j)) (X3 (ix2 ⟨k / 8, by omega⟩ j)) (X4 (ix2 ⟨k / 8, by omega⟩ j)) (k % 8))
      (zw ⟨k / 128, by omega⟩) * X5 (ix2 ⟨k / 128, by omega⟩ j))
  else 0

omit [Facts] in
/-- A sum in the order of the block's rows is the sum in order. -/
theorem sum_rows256 (f : Nat → EReal) : (∑ R : Fin 256, f (4 * (R.val % 64) + R.val / 64)) = ∑ q ∈ Finset.range 256, f q := by
  rw [Finset.sum_range]
  exact (Equiv.mk (fun R : Fin 256 => (⟨4 * (R.val % 64) + R.val / 64, by omega⟩ : Fin 256))
    (fun q : Fin 256 => (⟨64 * (q.val % 4) + q.val / 4, by omega⟩ : Fin 256))
    (fun R => Fin.ext (by show 64 * ((4 * (R.val % 64) + R.val / 64) % 4) + (4 * (R.val % 64) + R.val / 64) / 4 = R.val; omega))
    (fun q => Fin.ext (by show 4 * ((64 * (q.val % 4) + q.val / 4) % 64) + (64 * (q.val % 4) + q.val / 4) / 64 = q.val; omega))).sum_comp
    (fun q : Fin 256 => f q.val)

omit [Facts] in
theorem sum_rows128 (f : Nat → EReal) : (∑ R : Fin 128, f (4 * (R.val % 32) + R.val / 32)) = ∑ q ∈ Finset.range 128, f q := by
  rw [Finset.sum_range]
  exact (Equiv.mk (fun R : Fin 128 => (⟨4 * (R.val % 32) + R.val / 32, by omega⟩ : Fin 128))
    (fun q : Fin 128 => (⟨32 * (q.val % 4) + q.val / 4, by omega⟩ : Fin 128))
    (fun R => Fin.ext (by show 32 * ((4 * (R.val % 32) + R.val / 32) % 4) + (4 * (R.val % 32) + R.val / 32) / 4 = R.val; omega))
    (fun q => Fin.ext (by show 4 * ((32 * (q.val % 4) + q.val / 4) % 32) + (32 * (q.val % 4) + q.val / 4) / 32 = q.val; omega))).sum_comp
    (fun q : Fin 128 => f q.val)

theorem dot256 (acc : FVec Ideal S96x512 .f32) (x : FVec Ideal S96x256 .bf16) (w : FVec Ideal S256x512 .bf16) (m : Fin 96) (j : Fin 512) :
    addf acc (matmul dot_S96x256_S256x512_S96x512_1_0_0_1_n_n none x w (constant S96x512 .f32 0x00000000#32)) (ix2 m j)
      = acc (ix2 m j) + ∑ R : Fin 256, x (ix2 m R) * w (ix2 R j) := by
  pointwise

theorem dot128 (acc : FVec Ideal S96x512 .f32) (x : FVec Ideal S96x128 .bf16) (w : FVec Ideal S128x512 .bf16) (m : Fin 96) (j : Fin 512) :
    addf acc (matmul dot_S96x128_S128x512_S96x512_1_0_0_1_n_n none x w (constant S96x512 .f32 0x00000000#32)) (ix2 m j)
      = acc (ix2 m j) + ∑ R : Fin 128, x (ix2 m R) * w (ix2 R j) := by
  pointwise

section Point

variable (i : grid0.Coords) (X1 X8 : Vec Ideal S96x8576 .bf16) (X2 X3 X4 : Vec Ideal S1072x512 .i8) (X5 : Vec Ideal S67x512 .bf16)
  (X9 : Vec Ideal S67x9216 .i32) (zw : Fin 67 → Nat) (m : Fin 96) (j : Fin 512) (n : Fin 9216)

/-- A row of the zero points' scratch at this grid point's columns. -/
theorem zrow_apply (hn : n.val = 512 * (i 0).val + j.val) (z : Nat) (inb) (g : Fin 67) (hg : g.val = z) :
    (VecWindow.window X9 (zoff i z) S1x512.size inb : Vec Ideal S1x512 .i32) (ix2 0 j) = X9 (ix2 g n) := by
  refine window_at X9 z _ 1 512 inb 0 j g n (by show g.val = z + 0; omega) ?_
  rw [hn]
  exact congrArg (· + j.val) (zcol_eq i).symm

theorem blkVal_apply (hX8 : ∀ k : Fin 8576, X8 (ix2 m k) = X1 (ix2 m ⟨srcCol k.val, srcCol_lt k.isLt⟩))
    (hn : n.val = 512 * (i 0).val + j.val) (hz : ∀ g, X9 (ix2 g n) = spread (zw g)) (hzw : ∀ g, zw g < 8)
    (r : Nat) (h : r < 33) (acc : FVec Ideal S96x512 .f32) :
    blkVal i X2 X3 X4 X8 X9 (scaleWords X5) r h acc (ix2 m j)
      = acc (ix2 m j) + ∑ q ∈ Finset.range 256, term X1 X2 X3 X4 X5 zw m j (256 * r + q) := by
  unfold blkVal
  rw [dot256]
  congr 1
  rw [← sum_rows256 fun q => term X1 X2 X3 X4 X5 zw m j (256 * r + q)]
  refine Finset.sum_congr rfl fun R _ => ?_
  have hR := R.isLt
  have hk : 256 * r + (4 * (R.val % 64) + R.val / 64) < 8576 := by omega
  have hgr : (256 * r + (4 * (R.val % 64) + R.val / 64)) / 128 = 2 * r + R.val % 64 / 32 := by omega
  unfold term
  rw [dif_pos hk]
  refine congrArg₂ (· * ·) ?_ ?_
  · refine (window_at X8 0 (256 * r) 96 256 _ m R m ⟨256 * r + R.val, by omega⟩ (by omega) rfl).trans ((hX8 _).trans ?_)
    refine congrArg (fun k => X1 (ix2 m k)) (Fin.ext ?_)
    show srcCol (256 * r + R.val) = 256 * r + (4 * (R.val % 64) + R.val / 64)
    unfold srcCol
    rw [if_pos (by omega), show (256 * r + R.val) % 256 = R.val by omega, show (256 * r + R.val) / 256 = r by omega]
  · have hb : ∀ X : Vec Ideal S1072x512 .i8, (VecWindow.window X ![32 * r, 0] S32x512.size (inbP h) : Vec Ideal S32x512 .i8)
        (ix2 ⟨(4 * (R.val % 64) + R.val / 64) / 8, by omega⟩ j) = X (ix2 ⟨(256 * r + (4 * (R.val % 64) + R.val / 64)) / 8, by omega⟩ j) := fun X =>
      window_at X (32 * r) 0 32 512 _ _ j _ j (by show (256 * r + (4 * (R.val % 64) + R.val / 64)) / 8 = 32 * r + (4 * (R.val % 64) + R.val / 64) / 8; omega) (by omega)
    have hm : (256 * r + (4 * (R.val % 64) + R.val / 64)) % 8 = (4 * (R.val % 64) + R.val / 64) % 8 := by omega
    rw [weights_apply _ _ _ _ _ _ (zw ⟨2 * r + R.val % 64 / 32, by omega⟩) (hzw _) R j ?_ ⟨(4 * (R.val % 64) + R.val / 64) / 8, by omega⟩ rfl,
      hb X2, hb X3, hb X4, hm]
    · simp only [hgr]
      congr 1
      by_cases h2 : R.val % 64 < 32
      · rw [if_pos h2]
        exact scale16_apply X5 (2 * r) _ _ (by show 2 * r + R.val % 64 / 32 = 2 * r; omega) _ j
      · rw [if_neg h2]
        exact scale16_apply X5 (2 * r + 1) _ _ (by show 2 * r + R.val % 64 / 32 = 2 * r + 1; omega) _ j
    · rw [zeros8_apply]
      by_cases h2 : R.val % 64 < 32
      · rw [if_pos (by show R.val % 64 / 8 < 4; omega), ← hz]
        exact zrow_apply i X9 j n hn (2 * r) _ _ (by show 2 * r + R.val % 64 / 32 = 2 * r; omega)
      · rw [if_neg (by show ¬ R.val % 64 / 8 < 4; omega), ← hz]
        exact zrow_apply i X9 j n hn (2 * r + 1) _ _ (by show 2 * r + R.val % 64 / 32 = 2 * r + 1; omega)

theorem halfVal_apply (hX8 : ∀ k : Fin 8576, X8 (ix2 m k) = X1 (ix2 m ⟨srcCol k.val, srcCol_lt k.isLt⟩))
    (hn : n.val = 512 * (i 0).val + j.val) (hz : ∀ g, X9 (ix2 g n) = spread (zw g)) (hzw : ∀ g, zw g < 8)
    (acc : FVec Ideal S96x512 .f32) :
    halfVal i X2 X3 X4 X8 X9 (scaleWords X5) acc (ix2 m j)
      = acc (ix2 m j) + ∑ q ∈ Finset.range 128, term X1 X2 X3 X4 X5 zw m j (8448 + q) := by
  unfold halfVal
  rw [dot128]
  congr 1
  rw [← sum_rows128 fun q => term X1 X2 X3 X4 X5 zw m j (8448 + q)]
  refine Finset.sum_congr rfl fun R _ => ?_
  have hR := R.isLt
  have hk : 8448 + (4 * (R.val % 32) + R.val / 32) < 8576 := by omega
  have hgr : (8448 + (4 * (R.val % 32) + R.val / 32)) / 128 = 66 := by omega
  unfold term
  rw [dif_pos hk]
  refine congrArg₂ (· * ·) ?_ ?_
  · refine (window_at X8 0 8448 96 128 _ m R m ⟨8448 + R.val, by omega⟩ (by omega) rfl).trans ((hX8 _).trans ?_)
    refine congrArg (fun k => X1 (ix2 m k)) (Fin.ext ?_)
    show srcCol (8448 + R.val) = 8448 + (4 * (R.val % 32) + R.val / 32)
    unfold srcCol
    rw [if_neg (by omega)]
    omega
  · have hb : ∀ X : Vec Ideal S1072x512 .i8, (VecWindow.window X ![1056, 0] S16x512.size inb_S1072x512_S16x512_1056_0 : Vec Ideal S16x512 .i8)
        (ix2 ⟨(4 * (R.val % 32) + R.val / 32) / 8, by omega⟩ j) = X (ix2 ⟨(8448 + (4 * (R.val % 32) + R.val / 32)) / 8, by omega⟩ j) := fun X =>
      window_at X 1056 0 16 512 _ _ j _ j (by show (8448 + (4 * (R.val % 32) + R.val / 32)) / 8 = 1056 + (4 * (R.val % 32) + R.val / 32) / 8; omega) (by omega)
    have hm : (8448 + (4 * (R.val % 32) + R.val / 32)) % 8 = (4 * (R.val % 32) + R.val / 32) % 8 := by omega
    rw [weightsHalf_apply _ _ _ _ _ (zw ⟨66, by omega⟩) (hzw _) R j ?_ ⟨(4 * (R.val % 32) + R.val / 32) / 8, by omega⟩ rfl,
      hb X2, hb X3, hb X4, hm]
    · simp only [hgr]
      congr 1
      exact scale16_apply X5 66 _ _ rfl _ j
    · rw [← hz]
      exact zrow_apply i X9 j n hn 66 _ _ rfl

theorem chainVal_apply (hX8 : ∀ k : Fin 8576, X8 (ix2 m k) = X1 (ix2 m ⟨srcCol k.val, srcCol_lt k.isLt⟩))
    (hn : n.val = 512 * (i 0).val + j.val) (hz : ∀ g, X9 (ix2 g n) = spread (zw g)) (hzw : ∀ g, zw g < 8) :
    (b r : Nat) → (h : r + b ≤ 33) → (acc : FVec Ideal S96x512 .f32) →
    acc (ix2 m j) = ∑ q ∈ Finset.range (256 * r), term X1 X2 X3 X4 X5 zw m j q →
    chainVal i X2 X3 X4 X8 X9 (scaleWords X5) b r h acc (ix2 m j) = ∑ q ∈ Finset.range (256 * (r + b)), term X1 X2 X3 X4 X5 zw m j q
  | 0, r, h, acc, ha => ha
  | b + 1, r, h, acc, ha => by
    show chainVal i X2 X3 X4 X8 X9 (scaleWords X5) b (r + 1) _ _ (ix2 m j) = _
    rw [chainVal_apply hX8 hn hz hzw b (r + 1) (by omega) _ (by
      rw [blkVal_apply i X1 X8 X2 X3 X4 X5 X9 zw m j n hX8 hn hz hzw, ha, show 256 * (r + 1) = 256 * r + 256 by ring, Finset.sum_range_add])]
    rw [show r + 1 + b = r + (b + 1) by ring]

/-- The stored value: the sum over all of the inner dimension. -/
theorem outVal_apply (hX8 : ∀ k : Fin 8576, X8 (ix2 m k) = X1 (ix2 m ⟨srcCol k.val, srcCol_lt k.isLt⟩))
    (hn : n.val = 512 * (i 0).val + j.val) (hz : ∀ g, X9 (ix2 g n) = spread (zw g)) (hzw : ∀ g, zw g < 8) :
    outVal i X2 X3 X4 X8 X9 (scaleWords X5) (ix2 m j) = ∑ q ∈ Finset.range 8576, term X1 X2 X3 X4 X5 zw m j q := by
  have e : outVal i X2 X3 X4 X8 X9 (scaleWords X5) (ix2 m j) = halfVal i X2 X3 X4 X8 X9 (scaleWords X5)
      (chainVal i X2 X3 X4 X8 X9 (scaleWords X5) 33 0 (by omega) (broadcast S96x512 (Scalar.ofBits .f32 0x00000000#32))) (ix2 m j) := by
    unfold outVal
    generalize halfVal i X2 X3 X4 X8 X9 (scaleWords X5) _ = y
    pointwise
  rw [e, halfVal_apply i X1 X8 X2 X3 X4 X5 X9 zw m j n hX8 hn hz hzw,
    chainVal_apply i X1 X8 X2 X3 X4 X5 X9 zw m j n hX8 hn hz hzw 33 0 (by omega) _ (by
      rw [Nat.mul_zero, Finset.sum_range_zero]; pointwise)]
  exact (Finset.sum_range_add (term X1 X2 X3 X4 X5 zw m j) 8448 128).symm

end Point
end Cert.KernelIdeal
-- ==== Proof.Blocks.lean ====
module

public import proofs.«01_k».proof.Proof.Frames
public import proofs.«01_k».proof.Proof.Value

/-! # A grid point's blocks in the whole arrays

The point `t` works on the columns from `512 * t`; the last point's blocks overhang the arrays' end. Inside
the arrays a block's entry is the array's, and the stored value is the sum over the whole inner dimension. -/

@[expose] public section

set_option maxRecDepth 16384

noncomputable section

namespace Cert.KernelIdeal

open Cert.KernelIdeal.Gen Cert.Bits
open Idealize.ShloMosaic Idealize.ShloMosaic.TcCoe Idealize.ShloMosaic.Tactic Idealize.ShloMosaic.Pointwise
open Idealize.ShloMosaic.Pipeline (Window)

variable [Facts]

/-- One term of an entry of the result, from the whole arrays. -/
def wterm (A0 : Vec Ideal S96x8576 .bf16) (A1 A2 A3 : Vec Ideal S1072x9088 .i8) (A4 : Vec Ideal S67x9088 .bf16) (A5 : Vec Ideal S67x909 .i32)
    (mm : Fin 96) (n : Fin 9088) (k : Nat) : EReal :=
  if h : k < 8576 then
    A0 (ix2 mm ⟨k, h⟩) * (signed (code (A1 (ix2 ⟨k / 8, by omega⟩ n)) (A2 (ix2 ⟨k / 8, by omega⟩ n)) (A3 (ix2 ⟨k / 8, by omega⟩ n)) (k % 8))
      (zeroOf A5 ⟨k / 128, by omega⟩ n.val) * A4 (ix2 ⟨k / 128, by omega⟩ n))
  else 0

/-- The result, from the whole arrays. -/
def total (A0 : Vec Ideal S96x8576 .bf16) (A1 A2 A3 : Vec Ideal S1072x9088 .i8) (A4 : Vec Ideal S67x9088 .bf16) (A5 : Vec Ideal S67x909 .i32) :
    Vec Ideal S96x9088 .bf16 :=
  fun q => ∑ k ∈ Finset.range 8576, wterm A0 A1 A2 A3 A4 A5 (q 0) (q 1) k

omit [Facts] in
/-- An entry of a fetched block inside the array is the array's entry. -/
theorem fill_at {G : Pipeline.Grid} {α : Type} (w : Window sig G) (t : Fin G.N) (d : w.block.Idx → α) (X : w.shape.Idx → α)
    (J : w.block.Idx) (Y : w.shape.Idx) (hs : ∀ a, (J a).val < w.xsize (G.coords t) a)
    (hy : ∀ a, (Y a).val = w.index t a * w.size a + (J a).val) (hk : w.kind = .blocked) :
    w.fill (G.coords t) d (fun y => X ((w.rect t).emb y)) J = X Y := by
  unfold Window.fill
  rw [dif_pos ((w.moved_iff _ _).mpr hs)]
  exact congrArg X (funext fun a => Fin.ext ((Window.rect_emb_val w t _ a hk).trans (hy a).symm))

/-- The point's coordinate is its number. -/
theorem coord0 (t : Fin cfg0.N) : (grid0.coords t 0).val = t.val := (by decide +kernel : ∀ t : Fin grid0.N, (grid0.coords t 0).val = t.val) t

/-- The part of each cut window's block inside its array, and where it begins. -/
theorem cut1 (t : Fin cfg0.N) : win0_1.xsize (grid0.coords t) 0 = 1072 ∧ win0_1.xsize (grid0.coords t) 1 = min 512 (9088 - 512 * t.val)
    ∧ win0_1.index t 0 = 0 ∧ win0_1.index t 1 = t.val :=
  (by decide +kernel : ∀ t : Fin grid0.N, win0_1.xsize (grid0.coords t) 0 = 1072 ∧ win0_1.xsize (grid0.coords t) 1 = min 512 (9088 - 512 * t.val)
    ∧ win0_1.index t 0 = 0 ∧ win0_1.index t 1 = t.val) t
theorem cut4 (t : Fin cfg0.N) : win0_4.xsize (grid0.coords t) 0 = 67 ∧ win0_4.xsize (grid0.coords t) 1 = min 512 (9088 - 512 * t.val)
    ∧ win0_4.index t 0 = 0 ∧ win0_4.index t 1 = t.val :=
  (by decide +kernel : ∀ t : Fin grid0.N, win0_4.xsize (grid0.coords t) 0 = 67 ∧ win0_4.xsize (grid0.coords t) 1 = min 512 (9088 - 512 * t.val)
    ∧ win0_4.index t 0 = 0 ∧ win0_4.index t 1 = t.val) t
theorem cut6 (t : Fin cfg0.N) : win0_6.xsize (grid0.coords t) 0 = 96 ∧ win0_6.xsize (grid0.coords t) 1 = min 512 (9088 - 512 * t.val)
    ∧ win0_6.index t 0 = 0 ∧ win0_6.index t 1 = t.val :=
  (by decide +kernel : ∀ t : Fin grid0.N, win0_6.xsize (grid0.coords t) 0 = 96 ∧ win0_6.xsize (grid0.coords t) 1 = min 512 (9088 - 512 * t.val)
    ∧ win0_6.index t 0 = 0 ∧ win0_6.index t 1 = t.val) t

variable (m : (ℓ : Loc nD τ sig) → Buf (Elt Ideal) ℓ) (c : Dev nD) (t : Fin cfg0.N)

section Planes
variable (d : Vec Ideal S1072x512 .i8) (r : Fin 1072) (j : Fin 512) (n : Fin 9088) (hn : n.val = 512 * t.val + j.val)
include hn

theorem plane1_at : win0_1.fill (grid0.coords t) d (iblk m c 1 t) (ix2 r j) = V m c main_arg1 (ix2 r n) := by
  obtain ⟨h0, h1, h2, h3⟩ := cut1 t
  refine fill_at win0_1 t d (V m c main_arg1) (ix2 r j) (ix2 r n) ?_ ?_ rfl <;> intro a
  · match a with
    | ⟨0, _⟩ => exact lt_of_lt_of_eq r.isLt h0.symm
    | ⟨1, _⟩ => exact lt_of_lt_of_eq (show j.val < min 512 (9088 - 512 * t.val) by omega) h1.symm
  · match a with
    | ⟨0, _⟩ => exact (show r.val = win0_1.index t 0 * 1072 + r.val by rw [h2]; omega)
    | ⟨1, _⟩ => exact (show n.val = win0_1.index t 1 * 512 + j.val by rw [h3]; omega)

theorem plane2_at : win0_2.fill (grid0.coords t) d (iblk m c 2 t) (ix2 r j) = V m c main_arg2 (ix2 r n) := by
  obtain ⟨h0, h1, h2, h3⟩ := cut1 t
  refine fill_at win0_2 t d (V m c main_arg2) (ix2 r j) (ix2 r n) ?_ ?_ rfl <;> intro a
  · match a with
    | ⟨0, _⟩ => exact lt_of_lt_of_eq r.isLt h0.symm
    | ⟨1, _⟩ => exact lt_of_lt_of_eq (show j.val < min 512 (9088 - 512 * t.val) by omega) h1.symm
  · match a with
    | ⟨0, _⟩ => exact (show r.val = win0_1.index t 0 * 1072 + r.val by rw [h2]; omega)
    | ⟨1, _⟩ => exact (show n.val = win0_1.index t 1 * 512 + j.val by rw [h3]; omega)

theorem plane3_at : win0_3.fill (grid0.coords t) d (iblk m c 3 t) (ix2 r j) = V m c main_arg3 (ix2 r n) := by
  obtain ⟨h0, h1, h2, h3⟩ := cut1 t
  refine fill_at win0_3 t d (V m c main_arg3) (ix2 r j) (ix2 r n) ?_ ?_ rfl <;> intro a
  · match a with
    | ⟨0, _⟩ => exact lt_of_lt_of_eq r.isLt h0.symm
    | ⟨1, _⟩ => exact lt_of_lt_of_eq (show j.val < min 512 (9088 - 512 * t.val) by omega) h1.symm
  · match a with
    | ⟨0, _⟩ => exact (show r.val = win0_1.index t 0 * 1072 + r.val by rw [h2]; omega)
    | ⟨1, _⟩ => exact (show n.val = win0_1.index t 1 * 512 + j.val by rw [h3]; omega)
end Planes

theorem scale_at (d : Vec Ideal S67x512 .bf16) (g : Fin 67) (j : Fin 512) (n : Fin 9088) (hn : n.val = 512 * t.val + j.val) :
    win0_4.fill (grid0.coords t) d (iblk m c 4 t) (ix2 g j) = V m c main_arg4 (ix2 g n) := by
  obtain ⟨h0, h1, h2, h3⟩ := cut4 t
  refine fill_at win0_4 t d (V m c main_arg4) (ix2 g j) (ix2 g n) ?_ ?_ rfl <;> intro a
  · match a with
    | ⟨0, _⟩ => exact lt_of_lt_of_eq g.isLt h0.symm
    | ⟨1, _⟩ => exact lt_of_lt_of_eq (show j.val < min 512 (9088 - 512 * t.val) by omega) h1.symm
  · match a with
    | ⟨0, _⟩ => exact (show g.val = win0_4.index t 0 * 67 + g.val by rw [h2]; omega)
    | ⟨1, _⟩ => exact (show n.val = win0_4.index t 1 * 512 + j.val by rw [h3]; omega)

/-- The two windows whose block is their whole array. -/
theorem whole0 : iblk m c 0 t = V m c main_v0 := by
  funext q
  refine congrArg (V m c main_v0) (funext fun a => Fin.ext ((Window.rect_emb_val win0_0 t q a rfl).trans ?_))
  match a with
  | ⟨0, _⟩ => exact (show 0 * 96 + (q 0).val = (q 0).val by omega)
  | ⟨1, _⟩ => exact (show 0 * 8576 + (q 1).val = (q 1).val by omega)

theorem whole5 : iblk m c 5 t = V m c main_arg5 := by
  funext q
  refine congrArg (V m c main_arg5) (funext fun a => Fin.ext ((Window.rect_emb_val win0_5 t q a rfl).trans ?_))
  match a with
  | ⟨0, _⟩ => exact (show 0 * 67 + (q 0).val = (q 0).val by omega)
  | ⟨1, _⟩ => exact (show 0 * 909 + (q 1).val = (q 1).val by omega)

/-- The result's array after the run. -/
def resultOf : Vec Ideal S96x9088 .bf16 :=
  total (V m c main_v0) (V m c main_arg1) (V m c main_arg2) (V m c main_arg3) (V m c main_arg4) (V m c main_arg5)

/-- What the two buffers filled at the first point hold from then on. -/
def Ready (X8 : Vec Ideal S96x8576 .bf16) (X9 : Vec Ideal S67x9216 .i32) : Prop :=
  (∀ (mm : Fin 96) (k : Fin 8576), X8 (ix2 mm k) = (V m c main_v0 : Vec Ideal S96x8576 .bf16) (ix2 mm ⟨srcCol k.val, srcCol_lt k.isLt⟩))
  ∧ ∀ (g : Fin 67) (k : Fin 9216), k.val < 9088 → X9 (ix2 g k) = spread (zeroOf (V m c main_arg5) g k.val)

theorem ready_step (X8 : Vec Ideal S96x8576 .bf16) (X9 : Vec Ideal S67x9216 .i32) (h : t.val ≠ 0 → Ready m c X8 X9) :
    Ready m c (xpAt (grid0.coords t) (V m c main_v0) X8) (zpAt (grid0.coords t) (V m c main_arg5) X9) := by
  unfold xpAt zpAt
  by_cases h0 : t.val = 0
  · rw [if_pos (by rw [coord0]; exact h0), if_pos (by rw [coord0]; exact h0)]
    exact ⟨fun mm k => permAll_apply _ _ mm k, fun g k hk => zeroAll_apply _ _ g k hk⟩
  · rw [if_neg (by rw [coord0]; exact h0), if_neg (by rw [coord0]; exact h0)]
    exact h h0

/-- Inside the array the stored block is the result's. -/
theorem stored (d1 d2 d3 : Vec Ideal S1072x512 .i8) (d4 : Vec Ideal S67x512 .bf16) (X8 : Vec Ideal S96x8576 .bf16) (X9 : Vec Ideal S67x9216 .i32)
    (h : Ready m c X8 X9) :
    win0_6.cut (grid0.coords t) (outVal (grid0.coords t) (win0_1.fill (grid0.coords t) d1 (iblk m c 1 t)) (win0_2.fill (grid0.coords t) d2 (iblk m c 2 t))
        (win0_3.fill (grid0.coords t) d3 (iblk m c 3 t)) X8 X9 (scaleWords (win0_4.fill (grid0.coords t) d4 (iblk m c 4 t))))
      = (win0_6.blk t).view.read (Elt Ideal) (resultOf m c) := by
  funext y
  obtain ⟨h0, h1, h2, h3⟩ := cut6 t
  have y0 : (y 0).val < 96 := lt_of_lt_of_eq (y 0).isLt h0
  have y1 : (y 1).val < min 512 (9088 - 512 * t.val) := lt_of_lt_of_eq (y 1).isLt h1
  have e1 : win0_6.xinj (grid0.coords t) y = ix2 ⟨(y 0).val, y0⟩ ⟨(y 1).val, by omega⟩ := funext fun a => Fin.ext (match a with
    | ⟨0, _⟩ => rfl
    | ⟨1, _⟩ => rfl)
  have e2 : (win0_6.rect t).emb y = ix2 ⟨(y 0).val, y0⟩ ⟨512 * t.val + (y 1).val, by omega⟩ := funext fun a =>
    Fin.ext ((Window.rect_emb_val win0_6 t y a rfl).trans (match a with
      | ⟨0, _⟩ => (show win0_6.index t 0 * 96 + (y 0).val = (y 0).val by rw [h2]; omega)
      | ⟨1, _⟩ => (show win0_6.index t 1 * 512 + (y 1).val = 512 * t.val + (y 1).val by rw [h3]; omega)))
  show outVal _ _ _ _ _ _ _ (win0_6.xinj (grid0.coords t) y) = resultOf m c ((win0_6.rect t).emb y)
  rw [e1, e2]
  refine (outVal_apply (grid0.coords t) (V m c main_v0) X8 _ _ _ _ X9 (fun g => zeroOf (V m c main_arg5) g (512 * t.val + (y 1).val)) ⟨(y 0).val, y0⟩
    ⟨(y 1).val, by omega⟩ ⟨512 * t.val + (y 1).val, by omega⟩ (fun k => h.1 _ k) (by rw [coord0])
    (fun g => h.2 g _ (show 512 * t.val + (y 1).val < 9088 by omega)) (fun g => zeroOf_lt _ _ _)).trans ?_
  refine Finset.sum_congr rfl fun k _ => ?_
  unfold term wterm
  split
  · rw [plane1_at m c t d1 _ _ ⟨512 * t.val + (y 1).val, by omega⟩ rfl, plane2_at m c t d2 _ _ ⟨512 * t.val + (y 1).val, by omega⟩ rfl,
      plane3_at m c t d3 _ _ ⟨512 * t.val + (y 1).val, by omega⟩ rfl, scale_at m c t d4 _ _ ⟨512 * t.val + (y 1).val, by omega⟩ rfl]
    rfl
  · rfl

end Cert.KernelIdeal
-- ==== Proof.Exact.lean ====
module

public import proofs.«01_k».proof.Proof.Blocks
public import Idealize.ShloMosaic.Lib.Pipeline.ValueKit.Geometry

/-! # The run with its result

The loop's data with every block named: the inputs' blocks as fetched, the result's block the result's. Between
points the two buffers filled at the first point hold the permuted input and the spread zero points. -/

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Owned

local notation "𝕄" => MT nD τ sig Unit (Elt Ideal) ℕ (UR sig nD τ) ℕ

variable (m : (ℓ : Loc nD τ sig) → Buf (Elt Ideal) ℓ) (ρ : Dev nD → PrngReg)

/-- Between points: the three scratch buffers and the generator's register, the first two buffers filled once a
    point has run. -/
def inv (c : Dev nD) (t : Fin (cfg0.N + 1)) : sProp 𝕄 :=
  iprop(∃ (f8 : Vec Ideal S96x8576 .bf16) (f9 : Vec Ideal S67x9216 .i32) (f10 : Vec Ideal S67x2x512 .bf16), ⌜t.val ≠ 0 → Ready m c f8 f9⌝
    ∗ (((c : Thread nD τ).loc cc0_scratch0) ↦{fullShare} f8) ∗ (((c : Thread nD τ).loc cc0_scratch1) ↦{fullShare} f9)
    ∗ (((c : Thread nD τ).loc cc0_scratch2) ↦{fullShare} f10) ∗ ∃ r, prngReg c r)

/-- The loop's data: past the arrays' end the blocks are filled with zeros, which nothing reads. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => (0#8 : BitVec 8)) (iblk m c 2 t)
    | ⟨3, _⟩ => win0_3.fill (grid0.coords t) (fun _ => (0#8 : BitVec 8)) (iblk m c 3 t)
    | ⟨4, _⟩ => win0_4.fill (grid0.coords t) (fun _ => (0 : EReal)) (iblk m c 4 t)
    | ⟨5, _⟩ => iblk m c 5 t
    | ⟨6, _⟩ => win0_6.fill (grid0.coords t) (fun _ => (0 : EReal)) ((win0_6.blk t).view.read (Elt Ideal) (resultOf m c))
  Φ t := inv m c t
  q _ := fullShare
  owed _ := 0

section Before
variable (c : Dev nD) (t : Fin cfg0.N)

theorem before0 (d) : (datsV m 0 c).before 0 t d = V m c main_v0 :=
  (before0_0_of m (datsV m 0 c) rfl (fun _ => rfl) t d).trans (whole0 m c t)
theorem before1 (d) : (datsV m 0 c).before 1 t d = win0_1.fill (grid0.coords t) d (iblk m c 1 t) := by
  exact if_pos (fetch0_1 t)
theorem before2 (d) : (datsV m 0 c).before 2 t d = win0_2.fill (grid0.coords t) d (iblk m c 2 t) := by
  exact if_pos (fetch0_2 t)
theorem before3 (d) : (datsV m 0 c).before 3 t d = win0_3.fill (grid0.coords t) d (iblk m c 3 t) := by
  exact if_pos (fetch0_3 t)
theorem before4 (d) : (datsV m 0 c).before 4 t d = win0_4.fill (grid0.coords t) d (iblk m c 4 t) := by
  exact if_pos (fetch0_4 t)
theorem before5 (d) : (datsV m 0 c).before 5 t d = V m c main_arg5 :=
  (before0_5_of m (datsV m 0 c) rfl (fun _ => rfl) t d).trans (whole5 m c t)

theorem left0 : (datsV m 0 c).after 0 t = V m c main_v0 := whole0 m c t
theorem left1 : (win0 1).cut (cfg0.grid.coords t) ((datsV m 0 c).after 1 t) = iblk m c 1 t := win0_1.cut_fill (grid0.coords t) _ (iblk m c 1 t)
theorem left2 : (win0 2).cut (cfg0.grid.coords t) ((datsV m 0 c).after 2 t) = iblk m c 2 t := win0_2.cut_fill (grid0.coords t) _ (iblk m c 2 t)
theorem left3 : (win0 3).cut (cfg0.grid.coords t) ((datsV m 0 c).after 3 t) = iblk m c 3 t := win0_3.cut_fill (grid0.coords t) _ (iblk m c 3 t)
theorem left4 : (win0 4).cut (cfg0.grid.coords t) ((datsV m 0 c).after 4 t) = iblk m c 4 t := win0_4.cut_fill (grid0.coords t) _ (iblk m c 4 t)
theorem left5 : (datsV m 0 c).after 5 t = V m c main_arg5 := whole5 m c t
theorem left6 (X : Vec Ideal S96x512 .bf16) (h : win0_6.cut (grid0.coords t) X = (win0_6.blk t).view.read (Elt Ideal) (resultOf m c)) :
    (win0 6).fill (cfg0.grid.coords t) X ((win0 6).cut (cfg0.grid.coords t) ((datsV m 0 c).after 6 t)) = X :=
  (congrArg (win0_6.fill (grid0.coords t) X) ((win0_6.cut_fill (grid0.coords t) _ _).trans h.symm)).trans (win0_6.fill_cut (grid0.coords t) X)

end Before

theorem bodyV (c : Dev nD) : BodyObligationLoose (datsV m 0 c) (defs₀ (F := Ideal)) Variants.none () Set.univ := fun t => by
  rw [bigSep_W0, bigSep_W0]
  simp only
  rw [show (datsV m 0 c).owesAt () t.succ = (datsV m 0 c).owesAt () t.castSucc from rfl,
    show (datsV m 0 c).Φ t.castSucc = inv m c t.castSucc from rfl, show (datsV m 0 c).Φ t.succ = inv m c t.succ from rfl]
  unfold inv
  iintro ⟨⟨%f8, %f9, %f10, %hr, H8, H9, H10, Hg⟩, Ho, ⟨%d1, H1⟩, ⟨%d2, H2⟩, ⟨%d3, H3⟩, ⟨%d4, H4⟩, ⟨%d5, H5⟩, ⟨%d6, H6⟩, ⟨%d7, H7⟩⟩
  rw [before0 m c t d1, before1 m c t d2, before2 m c t d3, before3 m c t d4, before4 m c t d5, before5 m c t d6]
  iapply (body_run c (grid0.coords t) _ _ _ _ _ _ _ _ _ _ _ _ _ _ (Memref.whole cc0_scratch0) (Memref.isWhole_whole _) (Memref.whole cc0_scratch1) (Memref.isWhole_whole _)
    (Memref.whole cc0_scratch2) (Memref.isWhole_whole _) (V m c main_v0) (win0_1.fill (grid0.coords t) d2 (iblk m c 1 t))
    (win0_2.fill (grid0.coords t) d3 (iblk m c 2 t)) (win0_3.fill (grid0.coords t) d4 (iblk m c 3 t)) (win0_4.fill (grid0.coords t) d5 (iblk m c 4 t))
    (V m c main_arg5) _ f8 f9 f10 _) $$ [H1 H2 H3 H4 H5 H6 H7 H8 H9 H10]
  · simp only [owns_whole_eq]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists f8; isplitr; · ipureintro; rfl
      iexact H8
    isplitl [H9]
    · iexists f9; isplitr; · ipureintro; rfl
      iexact H9
    iexists f10; isplitr; · ipureintro; rfl
    iexact H10
  simp only [owns_whole_eq]
  iintro ⟨H1, H2, H3, H4, H5, H6, H7, ⟨%g8, %e8, H8⟩, ⟨%g9, %e9, H9⟩, ⟨%g10, -, H10⟩⟩
  have hR := ready_step m c t f8 f9 hr
  have hS := stored m c t d2 d3 d4 d5 _ _ hR
  isplitl [H8 H9 H10 Hg]
  · iexists g8, g9, g10
    isplitr
    · ipureintro; intro _; rw [e8, e9]; exact hR
    isplitl [H8]; · iexact H8
    isplitl [H9]; · iexact H9
    isplitl [H10]; · iexact H10
    iexact Hg
  isplitl [Ho]; · iexact Ho
  isplitl [H1]
  · rw [left0 m c t]; iexact H1
  isplitl [H2]
  · iexists d2
    rw [left1 m c t]; iexact H2
  isplitl [H3]
  · iexists d3
    rw [left2 m c t]; iexact H3
  isplitl [H4]
  · iexists d4
    rw [left3 m c t]; iexact H4
  isplitl [H5]
  · iexists d5
    rw [left4 m c t]; iexact H5
  isplitl [H6]
  · rw [left5 m c t]; iexact H6
  · iexists _
    rw [left6 m c t _ hS]
    iexact H7

/-- The result's blocks, one per point, are the whole result. -/
theorem result_eq (c : Dev nD) : (datsV m 0 c).arrAt 6 (cfgs 0).N = resultOf m c :=
  (datsV m 0 c).arrAt_eq_of_covers 6 (resultOf m c) (by decide +kernel) fun t _ y =>
    (cast_eq _ _).trans ((win0_6.fill_xinj (grid0.coords t) (fun _ => (0 : EReal)) ((win0_6.blk t).view.read (Elt Ideal) (resultOf m c)) y).trans
      (cast_eq _ _))

-- the implicit arguments are found by unifying the conclusion with this statement, which takes unfolding plain
-- definitions in a metavariable's type
set_option backward.isDefEq.respectTransparency.types false in
/-- Every weakly fair execution terminates with the arrays as the data name them. -/
theorem run_exact : θ_run defs (onTc (τ := τ) (main (F := Ideal))) (s₀ m ρ) (Pipeline.FramePost cfgs (datsV m) (0 : Fin 1) (V m)) :=
  Pipeline.θ_run_frame_track (Q' := _) cfgs (datsV m) (0 : Fin 1) launch0 defs₀ Variants.none m ρ main
    (hbody := fun c => bodyV m c) (hshare := fun c => (datsV m 0 c).share_full fun _ => rfl)
    (howed := fun _ _ => rfl) (V := V m) (hmain := hmain m Variants.none) (hA := fun _ _ => rfl)
    (hin := fun c => by
      rw [show (datsV m 0 c).Φ 0 = inv m c 0 from rfl]
      unfold Pipeline.ΦA inv
      rw [scopedRest0_eq]
      iintro ⟨⟨⟨%f8, H8⟩, ⟨%f9, H9⟩, ⟨%f10, H10⟩⟩, Hg⟩
      iexists f8, f9, f10
      isplitr
      · ipureintro; exact fun h => absurd rfl h
      isplitl [H8]; · iexact H8
      isplitl [H9]; · iexact H9
      isplitl [H10]; · iexact H10
      iexact Hg)
    (hout := fun c => by
      rw [show (datsV m 0 c).Φ (Fin.last (cfgs 0).N) = inv m c (Fin.last (cfgs 0).N) from rfl]
      unfold Pipeline.ΦA inv
      rw [scopedRest0_eq]
      iintro ⟨%f8, %f9, %f10, -, H8, H9, H10, Hg⟩
      isplitl [H8 H9 H10]
      · isplitl [H8]; · iexists f8; iexact H8
        isplitl [H9]; · iexists f9; iexact H9
        iexists f10; iexact H10
      iexact Hg)
    (hQ' := fun _ h => h.1)

/-- The kernel's run: the result's array holds the sums, every argument is as it was. -/
theorem run_result :
    θ_run defs (onTc (τ := τ) (main (F := Ideal))) ⟨m, fun _ => 0, ρ⟩ (fun r => ∀ c : Dev nD,
      r.2.mem ((c.tc : Thread nD τ).loc main_v1) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h c).1 6).trans (result_eq m c),
        (h c).2 main_arg0 (Pipeline.mem_restRefs_of main_arg0 (by decide) (by decide)) |>.trans (V_main_arg0 m c),
        (((h c).1 1).trans ((datsV m 0 c).arrAt_in 1 rfl _)).trans (V_main_arg1 m c),
        (((h c).1 2).trans ((datsV m 0 c).arrAt_in 2 rfl _)).trans (V_main_arg2 m c),
        (((h c).1 3).trans ((datsV m 0 c).arrAt_in 3 rfl _)).trans (V_main_arg3 m c),
        (((h c).1 4).trans ((datsV m 0 c).arrAt_in 4 rfl _)).trans (V_main_arg4 m c),
        (((h c).1 5).trans ((datsV m 0 c).arrAt_in 5 rfl _)).trans (V_main_arg5 m c)⟩) (run_exact m ρ)

end Cert.KernelIdeal
-- ==== Proof.Ref.lean ====
module

public import proofs.«01_k».proof.Proof.Gen.ReferenceIdeal
public import proofs.«01_k».proof.Proof.Gen.ReferenceIdeal.Run
public import proofs.«01_k».proof.Proof.Gen.ReferenceIdeal.Read
public import proofs.«01_k».proof.Proof.First

/-! The reference's result, one element at a time: the same sum over the inner dimension. -/

@[expose] public section
set_option maxRecDepth 16384
noncomputable section
namespace Cert.ReferenceIdeal.Read
open Cert.ReferenceIdeal Cert.ReferenceIdeal.Gen Idealize.ShloMosaic Idealize.ShloMosaic.TcCoe Idealize.SL.Sem Idealize.ShloMosaic.StableHlo
open Cert.Bits
open Cert.KernelIdeal (signed zeroOf zeroOf_lt)

variable (x0 : (⟨S96x1x8576, .bf16⟩ : BufTy).Contents (Elt Ideal)) (x1 x2 x3 : (⟨S1072x9088, .i8⟩ : BufTy).Contents (Elt Ideal))
  (x4 : (⟨S67x9088, .bf16⟩ : BufTy).Contents (Elt Ideal)) (x5 : (⟨S67x909, .i32⟩ : BufTy).Contents (Elt Ideal))

/-! ## Codes -/

theorem bit_word : ∀ n : Fin 256, ∀ l : Fin 8,
    IntOp.andi (IntOp.shrsi .host ((BitVec.ofNat 8 n.val).setWidth 32) (BitVec.ofNat 32 l.val)) 1#32
      = BitVec.ofNat 32 (bit (BitVec.ofNat 8 n.val) l.val) := by decide +kernel

theorem bit_word' (a : BitVec 8) (l : Nat) (hl : l < 8) :
    IntOp.andi (IntOp.shrsi .host (a.setWidth 32) (BitVec.ofNat 32 l)) 1#32 = BitVec.ofNat 32 (bit a l) := by
  have h := bit_word ⟨a.toNat, a.isLt⟩ ⟨l, hl⟩
  simpa using h

theorem join_bits : ∀ a < 2, ∀ b < 2, ∀ c < 2,
    (IntOp.ori (IntOp.ori (BitVec.ofNat 32 a) (IntOp.shli .host (BitVec.ofNat 32 b) 1#32)) (IntOp.shli .host (BitVec.ofNat 32 c) 2#32)).toInt
      = ((a + 2 * b + 4 * c : Nat) : Int) := by decide +kernel

/-- The reference's code at a bit of three bytes. -/
theorem code_word (a b c : BitVec 8) (l : Nat) (hl : l < 8) :
    (IntOp.ori (IntOp.ori (IntOp.andi (IntOp.shrsi .host (a.setWidth 32) (BitVec.ofNat 32 l)) 1#32)
        (IntOp.shli .host (IntOp.andi (IntOp.shrsi .host (b.setWidth 32) (BitVec.ofNat 32 l)) 1#32) 1#32))
      (IntOp.shli .host (IntOp.andi (IntOp.shrsi .host (c.setWidth 32) (BitVec.ofNat 32 l)) 1#32) 2#32)).toInt
      = ((code a b c l : Nat) : Int) := by
  rw [bit_word' a l hl, bit_word' b l hl, bit_word' c l hl]
  exact join_bits _ (by have := bit_le a l; omega) _ (by have := bit_le b l; omega) _ (by have := bit_le c l; omega)

theorem v73_at (r : Fin 1072) (l : Fin 8) (n : Fin 9088) :
    val_main_v73 (F := Ideal) x1 x2 x3 (ix3 r l n) = (((code (x1 (ix2 r n)) (x2 (ix2 r n)) (x3 (ix2 r n)) l.val : Nat) : Int) : ℝ) := by
  have e : ∀ x : (⟨S1072x9088, .i8⟩ : BufTy).Contents (Elt Ideal), ∀ q : S1072x9088.Idx, (q 0).val = r.val → (q 1).val = n.val → x q = x (ix2 r n) :=
    fun x q h0 h1 => congrArg x (funext fun a => Fin.ext (match a with | ⟨0, _⟩ => h0 | ⟨1, _⟩ => h1))
  rw [← code_word _ _ _ l.val l.isLt]
  simp only [val_main_v73_apply, val_main_v72_apply, val_main_v71_apply, val_main_v70_apply, val_main_v69_apply, val_main_v68_apply, val_main_v67_apply,
    val_main_v66_apply, val_main_v65_apply, val_main_v64_apply, val_main_v63_apply, val_main_v62_apply, val_main_v61_apply, val_main_v60_apply, val_main_v59_apply,
    val_main_v58_apply, val_main_v57_apply, val_main_v56_apply, val_main_v55_apply, val_main_v54_apply, val_main_v53_apply, val_main_v52_apply, val_main_v51_apply,
    val_main_v50_apply, val_main_v49_apply, val_main_v48_apply, val_main_v47_apply, val_main_v46_apply, val_main_v45_apply, val_main_v44_apply,
    val_main_c_20_apply, val_main_c_21_apply, val_main_c_22_apply, val_main_c_23_apply, val_main_c_24_apply]
  rw [e x1 _ rfl rfl, e x2 _ rfl rfl, e x3 _ rfl rfl]
  rfl

/-! ## Zero points -/

theorem low3 (x : BitVec 32) : ∀ f : Fin 10, IntOp.andi (IntOp.shrsi .host x (BitVec.ofNat 32 (3 * f.val))) 7#32
    = BitVec.ofNat 32 (x.toNat / 2 ^ (3 * f.val) % 8) := by
  intro f
  rw [← Cert.KernelIdeal.mask7]
  have e : (BitVec.ofNat 32 (3 * f.val)).toNat = 3 * f.val := by rw [BitVec.toNat_ofNat]; omega
  unfold IntOp.andi IntOp.shrsi
  rw [if_pos (by rw [e]; omega), BitVec.sshiftRight', e]
  apply BitVec.eq_of_getLsbD_eq
  intro i hi
  by_cases h3 : i < 3
  · simp only [BitVec.getLsbD_and, BitVec.getLsbD_sshiftRight, BitVec.getLsbD_ushiftRight]
    rw [if_pos (by omega)]
    simp [show ¬ 32 ≤ i by omega]
  · have h7 : (7#32).getLsbD i = false := by
      interval_cases i <;> first | rfl | omega
    rw [BitVec.getLsbD_and, BitVec.getLsbD_and, h7, Bool.and_false, Bool.and_false]

theorem v41_at (g : Fin 67) (n : Fin 9090) :
    val_main_v41 (F := Ideal) x5 (ix2 g n) = BitVec.ofNat 32 (zeroOf x5 g n.val) := by
  have key := concatenate_ofFn_apply (t := S67x9090) (s₁ := S67x909) 1 ![val_main_v4 (F := Ideal) x5, val_main_v8 (F := Ideal) x5, val_main_v12 (F := Ideal) x5,
      val_main_v16 (F := Ideal) x5, val_main_v20 (F := Ideal) x5, val_main_v24 (F := Ideal) x5, val_main_v28 (F := Ideal) x5,
      val_main_v32 (F := Ideal) x5, val_main_v36 (F := Ideal) x5, val_main_v40 (F := Ideal) x5]
    concatenates_S67x909_S67x909_S67x909_S67x909_S67x909_S67x909_S67x909_S67x909_S67x909_S67x909_S67x9090_d1 rfl 909 rfl (ix2 g n) ⟨n.val / 909, by omega⟩ rfl (ix2 g ⟨n.val % 909, Nat.mod_lt _ (by decide)⟩) rfl
    (fun b hb => match b, hb with | ⟨0, _⟩, _ => rfl | ⟨1, _⟩, hb => absurd rfl hb)
  refine Eq.trans ?_ (key.trans ?_)
  · rfl
  · have hf : n.val / 909 < 10 := by omega
    unfold zeroOf
    rw [← low3 _ ⟨n.val / 909, hf⟩]
    generalize (⟨n.val % 909, Nat.mod_lt _ (by decide)⟩ : Fin 909) = q
    generalize (⟨n.val / 909, hf⟩ : Fin 10) = f
    fin_cases f <;> rfl

theorem v43_at (g : Fin 67) (n : Fin 9088) :
    val_main_v43 (F := Ideal) x5 (ix2 g n) = (((zeroOf x5 g n.val : Nat) : Int) : ℝ) := by
  rw [val_main_v43_apply, val_main_v42_apply]
  have e : idx_main_v42 (ix2 g n) = ix2 g ⟨n.val, by omega⟩ := funext fun a => match a with | ⟨0, _⟩ => rfl | ⟨1, _⟩ => rfl
  rw [e, v41_at]
  show ((BitVec.toInt (BitVec.ofNat 32 (zeroOf x5 g n.val)) : ℝ) : EReal) = _
  have h : ∀ t < 8, (BitVec.ofNat 32 t).toInt = ((t : Nat) : Int) := by decide
  rw [h _ (zeroOf_lt _ _ _)]

/-! ## The weights and the product -/

/-- Term `k` of one element of the reference's product. -/
def term (mm : Fin 96) (n : Fin 9088) (k : Nat) : EReal :=
  if h : k < 8576 then
    x0 (ix3 mm 0 ⟨k, h⟩) * (signed (code (x1 (ix2 ⟨k / 8, by omega⟩ n)) (x2 (ix2 ⟨k / 8, by omega⟩ n)) (x3 (ix2 ⟨k / 8, by omega⟩ n)) (k % 8))
      (zeroOf x5 ⟨k / 128, by omega⟩ n.val) * x4 (ix2 ⟨k / 128, by omega⟩ n))
  else 0

theorem v81_at (k : Fin 8576) (n : Fin 9088) :
    val_main_v81 (F := Ideal) x1 x2 x3 x4 x5 (ix2 k n)
      = signed (code (x1 (ix2 ⟨k.val / 8, by omega⟩ n)) (x2 (ix2 ⟨k.val / 8, by omega⟩ n)) (x3 (ix2 ⟨k.val / 8, by omega⟩ n)) (k.val % 8))
      (zeroOf x5 ⟨k.val / 128, by omega⟩ n.val) * x4 (ix2 ⟨k.val / 128, by omega⟩ n) := by
  have e1 : idx_main_v81 (ix2 k n) = ix4 ⟨k.val / 128, by omega⟩ ⟨k.val / 8 % 16, by omega⟩ ⟨k.val % 8, by omega⟩ n := funext fun a => Fin.ext (match a with
    | ⟨0, _⟩ => by show (k.val * 9088 + n.val) / 1163264 = k.val / 128; omega
    | ⟨1, _⟩ => by show (k.val * 9088 + n.val) / 72704 % 16 = k.val / 8 % 16; omega
    | ⟨2, _⟩ => by show (k.val * 9088 + n.val) / 9088 % 8 = k.val % 8; omega
    | ⟨3, _⟩ => by show (k.val * 9088 + n.val) % 9088 = n.val; omega)
  have e2 : idx_main_v74 (ix4 ⟨k.val / 128, by omega⟩ ⟨k.val / 8 % 16, by omega⟩ ⟨k.val % 8, by omega⟩ n)
      = ix3 ⟨k.val / 8, by omega⟩ ⟨k.val % 8, by omega⟩ n := funext fun a => Fin.ext (match a with
    | ⟨0, _⟩ => by show (((k.val / 128 * 16 + k.val / 8 % 16) * 8 + k.val % 8) * 9088 + n.val) / 72704 = k.val / 8; omega
    | ⟨1, _⟩ => by show (((k.val / 128 * 16 + k.val / 8 % 16) * 8 + k.val % 8) * 9088 + n.val) / 9088 % 8 = k.val % 8; omega
    | ⟨2, _⟩ => by show (((k.val / 128 * 16 + k.val / 8 % 16) * 8 + k.val % 8) * 9088 + n.val) % 9088 = n.val; omega)
  have e3 : idx_main_v75 (idx_main_v76 (ix4 ⟨k.val / 128, by omega⟩ ⟨k.val / 8 % 16, by omega⟩ ⟨k.val % 8, by omega⟩ n))
      = ix2 ⟨k.val / 128, by omega⟩ n := funext fun a => match a with | ⟨0, _⟩ => rfl | ⟨1, _⟩ => rfl
  have e4 : idx_main_v78 (idx_main_v79 (ix4 ⟨k.val / 128, by omega⟩ ⟨k.val / 8 % 16, by omega⟩ ⟨k.val % 8, by omega⟩ n))
      = ix2 ⟨k.val / 128, by omega⟩ n := funext fun a => match a with | ⟨0, _⟩ => rfl | ⟨1, _⟩ => rfl
  rw [val_main_v81_apply, e1, val_main_v80_apply, val_main_v77_apply, val_main_v74_apply, e2, v73_at, val_main_v76_apply, val_main_v75_apply, e3, v43_at,
    val_main_v79_apply, val_main_v78_apply, e4]
  refine congrArg (· * x4 (ix2 ⟨k.val / 128, by omega⟩ n)) ?_
  unfold signed
  push_cast
  exact (EReal.coe_sub _ _).symm

theorem v84_at (mm : Fin 96) (n : Fin 9088) :
    val_main_v84 (F := Ideal) x0 x1 x2 x3 x4 x5 (ix2 mm n) = ∑ k ∈ Finset.range 8576, term x0 x1 x2 x3 x4 x5 mm n k := by
  have e1 : idx_main_v84 (ix2 mm n) = ix3 mm 0 n := funext fun a => Fin.ext (match a with
    | ⟨0, _⟩ => by show (mm.val * 9088 + n.val) / 9088 = mm.val; omega
    | ⟨1, _⟩ => rfl
    | ⟨2, _⟩ => by show (mm.val * 9088 + n.val) % 9088 = n.val; omega)
  rw [val_main_v84_apply, e1, val_main_v83_apply, val_main_v82_apply, Finset.sum_range]
  refine Finset.sum_congr rfl fun k _ => ?_
  have e2 : lidx_main_v82 (ix3 mm 0 n) k = ix3 mm 0 k := funext fun a => match a with | ⟨0, _⟩ => rfl | ⟨1, _⟩ => rfl | ⟨2, _⟩ => rfl
  have e3 : ridx_main_v82 (ix3 mm 0 n) k = ix2 k n := funext fun a => match a with | ⟨0, _⟩ => rfl | ⟨1, _⟩ => rfl
  have e4 : val_main_v0 (F := Ideal) x0 (ix3 mm 0 k) = x0 (ix3 mm 0 k) := by
    unfold val_main_v0
    pointwise
  unfold term
  rw [dif_pos k.isLt, e2, e3, v81_at, e4]

end Cert.ReferenceIdeal.Read
-- ==== Proof.Same.lean ====
module

public import proofs.«01_k».proof.Defs
public import proofs.«01_k».proof.Proof.Claims
public import proofs.«01_k».proof.Proof.Exact
public import proofs.«01_k».proof.Proof.Ref
public import Idealize.ShloMosaic.Lib.Claim

/-! # The kernel and the reference return the same array

Each entry of either is the sum, over the inner dimension, of the input times the signed weight times the
group's scale. -/

@[expose] public section

set_option maxRecDepth 16384

noncomputable section

namespace Cert.Proof

open Cert.KernelIdeal Cert.KernelIdeal.Gen
open Idealize.ShloMosaic Idealize.ShloMosaic.TcCoe Idealize.ShloMosaic.Pointwise Idealize.SL.Sem

/-- The input as the loop finds it: the middle axis of length one dropped. -/
theorem input_at (m : (ℓ : Loc nD τ sig) → Buf (Elt Ideal) ℓ) (c : Dev nD) (mm : Fin 96) (k : Fin 8576) :
    (V m c main_v0 : Vec Ideal S96x8576 .bf16) (ix2 mm k) = (m ((c.tc : Thread nD τ).loc main_arg0) : Vec Ideal S96x1x8576 .bf16) (ix3 mm 0 k) := by
  entry_read
  pointwise

/-- The kernel's result is the reference's, of the same arguments. -/
theorem result_same (m : (ℓ : Loc nD τ sig) → Buf (Elt Ideal) ℓ) (c : Dev nD) :
    resultOf m c = Cert.ReferenceIdeal.Read.val_main_v84 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  funext q
  obtain ⟨mm, n, rfl⟩ : ∃ (mm : Fin 96) (n : Fin 9088), q = ix2 mm n := ⟨q 0, q 1, funext fun a => match a with
    | ⟨0, _⟩ => rfl
    | ⟨1, _⟩ => rfl⟩
  rw [Cert.ReferenceIdeal.Read.v84_at]
  unfold resultOf total
  rw [V_main_arg1, V_main_arg2, V_main_arg3, V_main_arg4, V_main_arg5]
  refine Finset.sum_congr rfl fun k _ => ?_
  unfold wterm Cert.ReferenceIdeal.Read.term
  split
  · exact congrArg (· * _) (input_at m c mm ⟨k, ‹_›⟩)
  · rfl

theorem algebraic : Cert.algebraic_KernelIdeal_ReferenceIdeal := fun m g m' g' _ hargs =>
  ⟨fun c => resultOf m c, run_result m g,
    (θ_run Cert.ReferenceIdeal.defs _ _).mono (fun _ h c => ⟨(h c).1.trans (by
        rw [Cert.ReferenceIdeal.Read.val_main_v84_eq, (hargs c).1, (hargs c).2.1, (hargs c).2.2.1, (hargs c).2.2.2.1, (hargs c).2.2.2.2.1, (hargs c).2.2.2.2.2]
        exact (result_same m c).symm), (h c).2⟩)
      (Cert.ReferenceIdeal.Value.run (F := Ideal) m' g')⟩

end Cert.Proof

end
-- ==== Proof.lean ====
module

public import proofs.«01_k».proof.Defs
public import proofs.«01_k».proof.Proof.Claims
public import proofs.«01_k».proof.Proof.Same
public import Idealize.ShloMosaic.Adequacy
public import Idealize.ShloMosaic.Init

/-! # The certificate's claims, together -/

@[expose] public section

noncomputable section

namespace Cert.Proof

theorem claim : Cert.Claim := ⟨Cert.Kernel.Gen.facts, Cert.KernelIdeal.Gen.facts, Cert.ReferenceIdeal.Gen.facts,
  frame_p, frame_pi, frame_ri, preserves, algebraic⟩

end Cert.Proof

end
